-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S64x2048 : Shape := ⟨2, ![64, 2048]⟩
abbrev S64x100000 : Shape := ⟨2, ![64, 100000]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel

variable [Facts]

def fn {F : FTy → Type} [FloatOps F] (main_arg0 : IVec S64x2048 32) (main_arg1 : FVec F S64x100000 .f32) : IVec S_ 1 :=
  let main_c : IVec S_ 32 := constantI S_ 32 0#32
  let main_v0 : IVec S64x2048 32 := broadcastInDim S64x2048 ![] bcast_S_S64x2048 main_c
  let main_v1 : IVec S64x2048 1 := cmpi .sge main_arg0 main_v0
  let main_c_0 : IVec S_ 32 := constantI S_ 32 100000#32
  let main_v2 : IVec S64x2048 32 := broadcastInDim S64x2048 ![] bcast_S_S64x2048 main_c_0
  let main_v3 : IVec S64x2048 1 := cmpi .slt main_arg0 main_v2
  let main_v4 : IVec S64x2048 1 := andi main_v1 main_v3
  let main_c_1 : IVec S_ 1 := constantI S_ 1 1#1
  let main_v5 : IVec S_ 1 := (fun x v => Host.reduce IntOp.andi x v reducesTo_S64x2048_S_d0_1 h_S_) main_v4 main_c_1
  main_v5
-- ==== Kernel.lean ====
abbrev S64x2048 : Shape := ⟨2, ![64, 2048]⟩
abbrev S64x100000 : Shape := ⟨2, ![64, 100000]⟩
abbrev S25600 : Shape := ⟨1, ![25600]⟩
abbrev S32 : Shape := ⟨1, ![32]⟩
abbrev S2048 : Shape := ⟨1, ![2048]⟩
abbrev S_ : Shape := ⟨0, ![]⟩
abbrev S1x100000 : Shape := ⟨2, ![1, 100000]⟩
abbrev S100000 : Shape := ⟨1, ![100000]⟩
abbrev S23168 : Shape := ⟨1, ![23168]⟩
abbrev S1x2048 : Shape := ⟨2, ![1, 2048]⟩
abbrev S16 : Shape := ⟨1, ![16]⟩

abbrev nBuf : Table → Nat
  | .hbm => 3
  | .local .scVector .vmem => 11
  | _ => 0

abbrev bufTy : (tb : Table) → Fin (nBuf tb) → BufTy
  | .hbm, ⟨0, _⟩ => ⟨S64x2048, .i32⟩
  | .hbm, ⟨1, _⟩ => ⟨S64x100000, .f32⟩
  | .hbm, ⟨2, _⟩ => ⟨S64x100000, .f32⟩
  | .local .scVector .vmem, ⟨0, _⟩ => ⟨S25600, .f32⟩
  | .local .scVector .vmem, ⟨1, _⟩ => ⟨S25600, .f32⟩
  | .local .scVector .vmem, ⟨2, _⟩ => ⟨S25600, .f32⟩
  | .local .scVector .vmem, ⟨3, _⟩ => ⟨S25600, .f32⟩
  | .local .scVector .vmem, ⟨4, _⟩ => ⟨S32, .f32⟩
  | .local .scVector .vmem, ⟨5, _⟩ => ⟨S32, .f32⟩
  | .local .scVector .vmem, ⟨6, _⟩ => ⟨S2048, .i32⟩
  | .local .scVector .vmem, ⟨7, _⟩ => ⟨S2048, .i32⟩
  | .local .scVector .vmem, ⟨8, _⟩ => ⟨S2048, .f32⟩
  | .local .scVector .vmem, ⟨9, _⟩ => ⟨S2048, .i32⟩
  | .local .scVector .vmem, ⟨10, _⟩ => ⟨S2048, .f32⟩
  | _, _ => ⟨S64x2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_3 : BitVec 32 := 0#32
  ![v3.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_285_r0 : BitVec 32 := 0#32
  ![v3.toNat, 0]
@[reducible] def k0_t1_loop : Scf.Loop 32 :=
  let c0_i32_40 : BitVec 32 := 0#32
  let c128_i32 : BitVec 32 := 128#32
  let v64 : BitVec 32 := Scalar.addi c0_i32_40 c128_i32
  let c1_i32_41 : BitVec 32 := 1#32
  ⟨c0_i32_40, v64, c1_i32_41⟩
def k0_off3 (k0_t1 : Fin k0_t1_loop.trips) : Fin 1 → Nat :=
  let c0_i32_286 : BitVec 32 := 0#32
  let c0_i32_40 : BitVec 32 := 0#32
  let c1_i32_41 : BitVec 32 := 1#32
  let arg28 : BitVec 32 := Scf.iv c0_i32_40 c1_i32_41 k0_t1
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk1 (v342 : IVec S16 32) : Prop :=
  (∀ a x, ((![v342] : Fin 1 → IVec S16 32) a x).toNat < S25600.size a)
theorem k0_idx1_inb : ∀ (v342 : IVec S16 32) (k0_hw1 : k0_chk1 v342), ∀ a x, ((![v342] : Fin 1 → IVec S16 32) a x).toNat < S25600.size a := fun v342 k0_hw1 => k0_hw1
def k0_off4 (k0_t1 : Fin k0_t1_loop.trips) : Fin 1 → Nat :=
  let c0_i32_286 : BitVec 32 := 0#32
  let c0_i32_40 : BitVec 32 := 0#32
  let c1_i32_41 : BitVec 32 := 1#32
  let arg28 : BitVec 32 := Scf.iv c0_i32_40 c1_i32_41 k0_t1
  let c1_i32_285 : BitVec 32 := 1#32
  let v326 : BitVec 32 := Scalar.muli arg28 c1_i32_285
  let v327 : BitVec 32 := Scalar.addi c0_i32_286 v326
  let c16_i32_294 : BitVec 32 := 16#32
  let v351 : BitVec 32 := Scalar.muli v327 c16_i32_294
  let v352 : Index := Scalar.indexCast v351
  ![v352.toNat]

def k0_chk2 (v362 : IVec S16 32) : Prop :=
  (∀ a x, ((![v362] : Fin 1 → IVec S16 32) a x).toNat < S32.size a)
theorem k0_idx2_inb : ∀ (v362 : IVec S16 32) (k0_hw2 : k0_chk2 v362), ∀ a x, ((![v362] : Fin 1 → IVec S16 32) a x).toNat < S32.size a := fun v362 k0_hw2 => k0_hw2
def k0_off5 (k0_t1 : Fin k0_t1_loop.trips) : Fin 1 → Nat :=
  let c0_i32_286 : BitVec 32 := 0#32
  let c0_i32_40 : BitVec 32 := 0#32
  let c1_i32_41 : BitVec 32 := 1#32
  let arg28 : BitVec 32 := Scf.iv c0_i32_40 c1_i32_41 k0_t1
  let c1_i32_285 : BitVec 32 := 1#32
  let v326 : BitVec 32 := Scalar.muli arg28 c1_i32_285
  let v327 : BitVec 32 := Scalar.addi c0_i32_286 v326
  let c16_i32_302 : BitVec 32 := 16#32
  let v371 : BitVec 32 := Scalar.muli v327 c16_i32_302
  let v372 : Index := Scalar.indexCast v371
  ![v372.toNat]
@[reducible] def k0_t2_loop : Scf.Loop 32 :=
  let c0_i32_43 : BitVec 32 := 0#32
  let c128_i32_44 : BitVec 32 := 128#32
  let v65 : BitVec 32 := Scalar.addi c0_i32_43 c128_i32_44
  let c1_i32_45 : BitVec 32 := 1#32
  ⟨c0_i32_43, v65, c1_i32_45⟩
def k0_off6 (k0_t2 : Fin k0_t2_loop.trips) : Fin 1 → Nat :=
  let c0_i32_286 : BitVec 32 := 0#32
  let c0_i32_43 : BitVec 32 := 0#32
  let c1_i32_45 : BitVec 32 := 1#32
  let arg28 : BitVec 32 := Scf.iv c0_i32_43 c1_i32_45 k0_t2
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk3 (v337 : IVec S16 32) : Prop :=
  (∀ a x, ((![v337] : Fin 1 → IVec S16 32) a x).toNat < S25600.size a)
theorem k0_idx3_inb : ∀ (v337 : IVec S16 32) (k0_hw3 : k0_chk3 v337), ∀ a x, ((![v337] : Fin 1 → IVec S16 32) a x).toNat < S25600.size a := fun v337 k0_hw3 => k0_hw3
def k0_off7 (k0_t2 : Fin k0_t2_loop.trips) : Fin 1 → Nat :=
  let c0_i32_286 : BitVec 32 := 0#32
  let c0_i32_43 : BitVec 32 := 0#32
  let c1_i32_45 : BitVec 32 := 1#32
  let arg28 : BitVec 32 := Scf.iv c0_i32_43 c1_i32_45 k0_t2
  let c1_i32_285 : BitVec 32 := 1#32
  let v326 : BitVec 32 := Scalar.muli arg28 c1_i32_285
  let v327 : BitVec 32 := Scalar.addi c0_i32_286 v326
  let c16_i32_291 : BitVec 32 := 16#32
  let v341 : BitVec 32 := Scalar.muli v327 c16_i32_291
  let v342 : Index := Scalar.indexCast v341
  ![v342.toNat]

def k0_chk4 (v347 : IVec S16 32) : Prop :=
  (∀ a x, ((![v347] : Fin 1 → IVec S16 32) a x).toNat < S32.size a)
theorem k0_idx4_inb : ∀ (v347 : IVec S16 32) (k0_hw4 : k0_chk4 v347), ∀ a x, ((![v347] : Fin 1 → IVec S16 32) a x).toNat < S32.size a := fun v347 k0_hw4 => k0_hw4
@[reducible] def k0_t3_loop : Scf.Loop 32 :=
  let c0_i32_63 : BitVec 32 := 0#32
  let c128_i32_64 : BitVec 32 := 128#32
  let v88 : BitVec 32 := Scalar.addi c0_i32_63 c128_i32_64
  let c1_i32_65 : BitVec 32 := 1#32
  ⟨c0_i32_63, v88, c1_i32_65⟩
def k0_off8 (k0_t3 : Fin k0_t3_loop.trips) : Fin 1 → Nat :=
  let c0_i32_286 : BitVec 32 := 0#32
  let c0_i32_63 : BitVec 32 := 0#32
  let c1_i32_65 : BitVec 32 := 1#32
  let arg28 : BitVec 32 := Scf.iv c0_i32_63 c1_i32_65 k0_t3
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk5 (v342 : IVec S16 32) : Prop :=
  (∀ a x, ((![v342] : Fin 1 → IVec S16 32) a x).toNat < S25600.size a)
theorem k0_idx5_inb : ∀ (v342 : IVec S16 32) (k0_hw5 : k0_chk5 v342), ∀ a x, ((![v342] : Fin 1 → IVec S16 32) a x).toNat < S25600.size a := fun v342 k0_hw5 => k0_hw5
def k0_off9 (k0_t3 : Fin k0_t3_loop.trips) : Fin 1 → Nat :=
  let c0_i32_286 : BitVec 32 := 0#32
  let c0_i32_63 : BitVec 32 := 0#32
  let c1_i32_65 : BitVec 32 := 1#32
  let arg28 : BitVec 32 := Scf.iv c0_i32_63 c1_i32_65 k0_t3
  let c1_i32_285 : BitVec 32 := 1#32
  let v326 : BitVec 32 := Scalar.muli arg28 c1_i32_285
  let v327 : BitVec 32 := Scalar.addi c0_i32_286 v326
  let c16_i32_294 : BitVec 32 := 16#32
  let v351 : BitVec 32 := Scalar.muli v327 c16_i32_294
  let v352 : Index := Scalar.indexCast v351
  ![v352.toNat]
@[reducible] def k0_t4_loop : Scf.Loop 32 :=
  let c0_i32_67 : BitVec 32 := 0#32
  let c128_i32_68 : BitVec 32 := 128#32
  let v89 : BitVec 32 := Scalar.addi c0_i32_67 c128_i32_68
  let c1_i32_69 : BitVec 32 := 1#32
  ⟨c0_i32_67, v89, c1_i32_69⟩
def k0_off10 (k0_t4 : Fin k0_t4_loop.trips) : Fin 1 → Nat :=
  let c0_i32_286 : BitVec 32 := 0#32
  let c0_i32_67 : BitVec 32 := 0#32
  let c1_i32_69 : BitVec 32 := 1#32
  let arg28 : BitVec 32 := Scf.iv c0_i32_67 c1_i32_69 k0_t4
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk6 (v337 : IVec S16 32) : Prop :=
  (∀ a x, ((![v337] : Fin 1 → IVec S16 32) a x).toNat < S25600.size a)
theorem k0_idx6_inb : ∀ (v337 : IVec S16 32) (k0_hw6 : k0_chk6 v337), ∀ a x, ((![v337] : Fin 1 → IVec S16 32) a x).toNat < S25600.size a := fun v337 k0_hw6 => k0_hw6
@[reducible] def k0_t5_loop : Scf.Loop 32 :=
  let c0_i32_83 : BitVec 32 := 0#32
  let c128_i32_84 : BitVec 32 := 128#32
  let v106 : BitVec 32 := Scalar.addi c0_i32_83 c128_i32_84
  let c1_i32_85 : BitVec 32 := 1#32
  ⟨c0_i32_83, v106, c1_i32_85⟩
def k0_off11 (k0_t5 : Fin k0_t5_loop.trips) : Fin 1 → Nat :=
  let c0_i32_286 : BitVec 32 := 0#32
  let c0_i32_83 : BitVec 32 := 0#32
  let c1_i32_85 : BitVec 32 := 1#32
  let arg28 : BitVec 32 := Scf.iv c0_i32_83 c1_i32_85 k0_t5
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk7 (v342 : IVec S16 32) : Prop :=
  (∀ a x, ((![v342] : Fin 1 → IVec S16 32) a x).toNat < S25600.size a)
theorem k0_idx7_inb : ∀ (v342 : IVec S16 32) (k0_hw7 : k0_chk7 v342), ∀ a x, ((![v342] : Fin 1 → IVec S16 32) a x).toNat < S25600.size a := fun v342 k0_hw7 => k0_hw7
def k0_off12 (k0_t5 : Fin k0_t5_loop.trips) : Fin 1 → Nat :=
  let c0_i32_286 : BitVec 32 := 0#32
  let c0_i32_83 : BitVec 32 := 0#32
  let c1_i32_85 : BitVec 32 := 1#32
  let arg28 : BitVec 32 := Scf.iv c0_i32_83 c1_i32_85 k0_t5
  let c1_i32_285 : BitVec 32 := 1#32
  let v326 : BitVec 32 := Scalar.muli arg28 c1_i32_285
  let v327 : BitVec 32 := Scalar.addi c0_i32_286 v326
  let c16_i32_294 : BitVec 32 := 16#32
  let v351 : BitVec 32 := Scalar.muli v327 c16_i32_294
  let v352 : Index := Scalar.indexCast v351
  ![v352.toNat]
@[reducible] def k0_t6_loop : Scf.Loop 32 :=
  let c0_i32_87 : BitVec 32 := 0#32
  let c128_i32_88 : BitVec 32 := 128#32
  let v107 : BitVec 32 := Scalar.addi c0_i32_87 c128_i32_88
  let c1_i32_89 : BitVec 32 := 1#32
  ⟨c0_i32_87, v107, c1_i32_89⟩
def k0_off13 (k0_t6 : Fin k0_t6_loop.trips) : Fin 1 → Nat :=
  let c0_i32_286 : BitVec 32 := 0#32
  let c0_i32_87 : BitVec 32 := 0#32
  let c1_i32_89 : BitVec 32 := 1#32
  let arg28 : BitVec 32 := Scf.iv c0_i32_87 c1_i32_89 k0_t6
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk8 (v337 : IVec S16 32) : Prop :=
  (∀ a x, ((![v337] : Fin 1 → IVec S16 32) a x).toNat < S25600.size a)
theorem k0_idx8_inb : ∀ (v337 : IVec S16 32) (k0_hw8 : k0_chk8 v337), ∀ a x, ((![v337] : Fin 1 → IVec S16 32) a x).toNat < S25600.size a := fun v337 k0_hw8 => k0_hw8
@[reducible] def k0_t7_loop : Scf.Loop 32 :=
  let c0_i32_115 : BitVec 32 := 0#32
  let c128_i32_116 : BitVec 32 := 128#32
  let v140 : BitVec 32 := Scalar.addi c0_i32_115 c128_i32_116
  let c1_i32_117 : BitVec 32 := 1#32
  ⟨c0_i32_115, v140, c1_i32_117⟩
def k0_off14 (k0_t7 : Fin k0_t7_loop.trips) : Fin 1 → Nat :=
  let c0_i32_286 : BitVec 32 := 0#32
  let c0_i32_115 : BitVec 32 := 0#32
  let c1_i32_117 : BitVec 32 := 1#32
  let arg28 : BitVec 32 := Scf.iv c0_i32_115 c1_i32_117 k0_t7
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk9 (v342 : IVec S16 32) : Prop :=
  (∀ a x, ((![v342] : Fin 1 → IVec S16 32) a x).toNat < S25600.size a)
theorem k0_idx9_inb : ∀ (v342 : IVec S16 32) (k0_hw9 : k0_chk9 v342), ∀ a x, ((![v342] : Fin 1 → IVec S16 32) a x).toNat < S25600.size a := fun v342 k0_hw9 => k0_hw9
def k0_off15 (k0_t7 : Fin k0_t7_loop.trips) : Fin 1 → Nat :=
  let c0_i32_286 : BitVec 32 := 0#32
  let c0_i32_115 : BitVec 32 := 0#32
  let c1_i32_117 : BitVec 32 := 1#32
  let arg28 : BitVec 32 := Scf.iv c0_i32_115 c1_i32_117 k0_t7
  let c1_i32_285 : BitVec 32 := 1#32
  let v326 : BitVec 32 := Scalar.muli arg28 c1_i32_285
  let v327 : BitVec 32 := Scalar.addi c0_i32_286 v326
  let c16_i32_293 : BitVec 32 := 16#32
  let v351 : BitVec 32 := Scalar.muli v327 c16_i32_293
  let v352 : Index := Scalar.indexCast v351
  ![v352.toNat]
@[reducible] def k0_t8_loop : Scf.Loop 32 :=
  let c0_i32_119 : BitVec 32 := 0#32
  let c128_i32_120 : BitVec 32 := 128#32
  let v141 : BitVec 32 := Scalar.addi c0_i32_119 c128_i32_120
  let c1_i32_121 : BitVec 32 := 1#32
  ⟨c0_i32_119, v141, c1_i32_121⟩
def k0_off16 (k0_t8 : Fin k0_t8_loop.trips) : Fin 1 → Nat :=
  let c0_i32_286 : BitVec 32 := 0#32
  let c0_i32_119 : BitVec 32 := 0#32
  let c1_i32_121 : BitVec 32 := 1#32
  let arg28 : BitVec 32 := Scf.iv c0_i32_119 c1_i32_121 k0_t8
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk10 (v337 : IVec S16 32) : Prop :=
  (∀ a x, ((![v337] : Fin 1 → IVec S16 32) a x).toNat < S25600.size a)
theorem k0_idx10_inb : ∀ (v337 : IVec S16 32) (k0_hw10 : k0_chk10 v337), ∀ a x, ((![v337] : Fin 1 → IVec S16 32) a x).toNat < S25600.size a := fun v337 k0_hw10 => k0_hw10
@[reducible] def k0_t9_loop : Scf.Loop 32 :=
  let c0_i32_151 : BitVec 32 := 0#32
  let c128_i32_152 : BitVec 32 := 128#32
  let v180 : BitVec 32 := Scalar.addi c0_i32_151 c128_i32_152
  let c1_i32_153 : BitVec 32 := 1#32
  ⟨c0_i32_151, v180, c1_i32_153⟩
def k0_off17 (k0_t9 : Fin k0_t9_loop.trips) : Fin 1 → Nat :=
  let c0_i32_286 : BitVec 32 := 0#32
  let c0_i32_151 : BitVec 32 := 0#32
  let c1_i32_153 : BitVec 32 := 1#32
  let arg28 : BitVec 32 := Scf.iv c0_i32_151 c1_i32_153 k0_t9
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk11 (v342 : IVec S16 32) : Prop :=
  (∀ a x, ((![v342] : Fin 1 → IVec S16 32) a x).toNat < S25600.size a)
theorem k0_idx11_inb : ∀ (v342 : IVec S16 32) (k0_hw11 : k0_chk11 v342), ∀ a x, ((![v342] : Fin 1 → IVec S16 32) a x).toNat < S25600.size a := fun v342 k0_hw11 => k0_hw11
def k0_off18 (k0_t9 : Fin k0_t9_loop.trips) : Fin 1 → Nat :=
  let c0_i32_286 : BitVec 32 := 0#32
  let c0_i32_151 : BitVec 32 := 0#32
  let c1_i32_153 : BitVec 32 := 1#32
  let arg28 : BitVec 32 := Scf.iv c0_i32_151 c1_i32_153 k0_t9
  let c1_i32_285 : BitVec 32 := 1#32
  let v326 : BitVec 32 := Scalar.muli arg28 c1_i32_285
  let v327 : BitVec 32 := Scalar.addi c0_i32_286 v326
  let c16_i32_294 : BitVec 32 := 16#32
  let v351 : BitVec 32 := Scalar.muli v327 c16_i32_294
  let v352 : Index := Scalar.indexCast v351
  ![v352.toNat]

def k0_chk12 (v362 : IVec S16 32) : Prop :=
  (∀ a x, ((![v362] : Fin 1 → IVec S16 32) a x).toNat < S32.size a)
theorem k0_idx12_inb : ∀ (v362 : IVec S16 32) (k0_hw12 : k0_chk12 v362), ∀ a x, ((![v362] : Fin 1 → IVec S16 32) a x).toNat < S32.size a := fun v362 k0_hw12 => k0_hw12
def k0_off19 (k0_t9 : Fin k0_t9_loop.trips) : Fin 1 → Nat :=
  let c0_i32_286 : BitVec 32 := 0#32
  let c0_i32_151 : BitVec 32 := 0#32
  let c1_i32_153 : BitVec 32 := 1#32
  let arg28 : BitVec 32 := Scf.iv c0_i32_151 c1_i32_153 k0_t9
  let c1_i32_285 : BitVec 32 := 1#32
  let v326 : BitVec 32 := Scalar.muli arg28 c1_i32_285
  let v327 : BitVec 32 := Scalar.addi c0_i32_286 v326
  let c16_i32_302 : BitVec 32 := 16#32
  let v371 : BitVec 32 := Scalar.muli v327 c16_i32_302
  let v372 : Index := Scalar.indexCast v371
  ![v372.toNat]
@[reducible] def k0_t10_loop : Scf.Loop 32 :=
  let c0_i32_155 : BitVec 32 := 0#32
  let c128_i32_156 : BitVec 32 := 128#32
  let v181 : BitVec 32 := Scalar.addi c0_i32_155 c128_i32_156
  let c1_i32_157 : BitVec 32 := 1#32
  ⟨c0_i32_155, v181, c1_i32_157⟩
def k0_off20 (k0_t10 : Fin k0_t10_loop.trips) : Fin 1 → Nat :=
  let c0_i32_286 : BitVec 32 := 0#32
  let c0_i32_155 : BitVec 32 := 0#32
  let c1_i32_157 : BitVec 32 := 1#32
  let arg28 : BitVec 32 := Scf.iv c0_i32_155 c1_i32_157 k0_t10
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk13 (v337 : IVec S16 32) : Prop :=
  (∀ a x, ((![v337] : Fin 1 → IVec S16 32) a x).toNat < S25600.size a)
theorem k0_idx13_inb : ∀ (v337 : IVec S16 32) (k0_hw13 : k0_chk13 v337), ∀ a x, ((![v337] : Fin 1 → IVec S16 32) a x).toNat < S25600.size a := fun v337 k0_hw13 => k0_hw13
def k0_off21 (k0_t10 : Fin k0_t10_loop.trips) : Fin 1 → Nat :=
  let c0_i32_286 : BitVec 32 := 0#32
  let c0_i32_155 : BitVec 32 := 0#32
  let c1_i32_157 : BitVec 32 := 1#32
  let arg28 : BitVec 32 := Scf.iv c0_i32_155 c1_i32_157 k0_t10
  let c1_i32_285 : BitVec 32 := 1#32
  let v326 : BitVec 32 := Scalar.muli arg28 c1_i32_285
  let v327 : BitVec 32 := Scalar.addi c0_i32_286 v326
  let c16_i32_291 : BitVec 32 := 16#32
  let v341 : BitVec 32 := Scalar.muli v327 c16_i32_291
  let v342 : Index := Scalar.indexCast v341
  ![v342.toNat]

def k0_chk14 (v347 : IVec S16 32) : Prop :=
  (∀ a x, ((![v347] : Fin 1 → IVec S16 32) a x).toNat < S32.size a)
theorem k0_idx14_inb : ∀ (v347 : IVec S16 32) (k0_hw14 : k0_chk14 v347), ∀ a x, ((![v347] : Fin 1 → IVec S16 32) a x).toNat < S32.size a := fun v347 k0_hw14 => k0_hw14
@[reducible] def k0_t11_loop : Scf.Loop 32 :=
  let c0_i32_187 : BitVec 32 := 0#32
  let c128_i32_188 : BitVec 32 := 128#32
  let v220 : BitVec 32 := Scalar.addi c0_i32_187 c128_i32_188
  let c1_i32_189 : BitVec 32 := 1#32
  ⟨c0_i32_187, v220, c1_i32_189⟩
def k0_off22 (k0_t11 : Fin k0_t11_loop.trips) : Fin 1 → Nat :=
  let c0_i32_286 : BitVec 32 := 0#32
  let c0_i32_187 : BitVec 32 := 0#32
  let c1_i32_189 : BitVec 32 := 1#32
  let arg28 : BitVec 32 := Scf.iv c0_i32_187 c1_i32_189 k0_t11
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk15 (v342 : IVec S16 32) : Prop :=
  (∀ a x, ((![v342] : Fin 1 → IVec S16 32) a x).toNat < S25600.size a)
theorem k0_idx15_inb : ∀ (v342 : IVec S16 32) (k0_hw15 : k0_chk15 v342), ∀ a x, ((![v342] : Fin 1 → IVec S16 32) a x).toNat < S25600.size a := fun v342 k0_hw15 => k0_hw15
def k0_off23 (k0_t11 : Fin k0_t11_loop.trips) : Fin 1 → Nat :=
  let c0_i32_286 : BitVec 32 := 0#32
  let c0_i32_187 : BitVec 32 := 0#32
  let c1_i32_189 : BitVec 32 := 1#32
  let arg28 : BitVec 32 := Scf.iv c0_i32_187 c1_i32_189 k0_t11
  let c1_i32_285 : BitVec 32 := 1#32
  let v326 : BitVec 32 := Scalar.muli arg28 c1_i32_285
  let v327 : BitVec 32 := Scalar.addi c0_i32_286 v326
  let c16_i32_294 : BitVec 32 := 16#32
  let v351 : BitVec 32 := Scalar.muli v327 c16_i32_294
  let v352 : Index := Scalar.indexCast v351
  ![v352.toNat]
@[reducible] def k0_t12_loop : Scf.Loop 32 :=
  let c0_i32_191 : BitVec 32 := 0#32
  let c128_i32_192 : BitVec 32 := 128#32
  let v221 : BitVec 32 := Scalar.addi c0_i32_191 c128_i32_192
  let c1_i32_193 : BitVec 32 := 1#32
  ⟨c0_i32_191, v221, c1_i32_193⟩
def k0_off24 (k0_t12 : Fin k0_t12_loop.trips) : Fin 1 → Nat :=
  let c0_i32_286 : BitVec 32 := 0#32
  let c0_i32_191 : BitVec 32 := 0#32
  let c1_i32_193 : BitVec 32 := 1#32
  let arg28 : BitVec 32 := Scf.iv c0_i32_191 c1_i32_193 k0_t12
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk16 (v337 : IVec S16 32) : Prop :=
  (∀ a x, ((![v337] : Fin 1 → IVec S16 32) a x).toNat < S25600.size a)
theorem k0_idx16_inb : ∀ (v337 : IVec S16 32) (k0_hw16 : k0_chk16 v337), ∀ a x, ((![v337] : Fin 1 → IVec S16 32) a x).toNat < S25600.size a := fun v337 k0_hw16 => k0_hw16
@[reducible] def k0_t13_loop : Scf.Loop 32 :=
  let c0_i32_219 : BitVec 32 := 0#32
  let c128_i32_220 : BitVec 32 := 128#32
  let v254 : BitVec 32 := Scalar.addi c0_i32_219 c128_i32_220
  let c1_i32_221 : BitVec 32 := 1#32
  ⟨c0_i32_219, v254, c1_i32_221⟩
def k0_off25 (k0_t13 : Fin k0_t13_loop.trips) : Fin 1 → Nat :=
  let c0_i32_286 : BitVec 32 := 0#32
  let c0_i32_219 : BitVec 32 := 0#32
  let c1_i32_221 : BitVec 32 := 1#32
  let arg28 : BitVec 32 := Scf.iv c0_i32_219 c1_i32_221 k0_t13
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk17 (v342 : IVec S16 32) : Prop :=
  (∀ a x, ((![v342] : Fin 1 → IVec S16 32) a x).toNat < S25600.size a)
theorem k0_idx17_inb : ∀ (v342 : IVec S16 32) (k0_hw17 : k0_chk17 v342), ∀ a x, ((![v342] : Fin 1 → IVec S16 32) a x).toNat < S25600.size a := fun v342 k0_hw17 => k0_hw17
def k0_off26 (k0_t13 : Fin k0_t13_loop.trips) : Fin 1 → Nat :=
  let c0_i32_286 : BitVec 32 := 0#32
  let c0_i32_219 : BitVec 32 := 0#32
  let c1_i32_221 : BitVec 32 := 1#32
  let arg28 : BitVec 32 := Scf.iv c0_i32_219 c1_i32_221 k0_t13
  let c1_i32_285 : BitVec 32 := 1#32
  let v326 : BitVec 32 := Scalar.muli arg28 c1_i32_285
  let v327 : BitVec 32 := Scalar.addi c0_i32_286 v326
  let c16_i32_294 : BitVec 32 := 16#32
  let v351 : BitVec 32 := Scalar.muli v327 c16_i32_294
  let v352 : Index := Scalar.indexCast v351
  ![v352.toNat]
@[reducible] def k0_t14_loop : Scf.Loop 32 :=
  let c0_i32_223 : BitVec 32 := 0#32
  let c128_i32_224 : BitVec 32 := 128#32
  let v255 : BitVec 32 := Scalar.addi c0_i32_223 c128_i32_224
  let c1_i32_225 : BitVec 32 := 1#32
  ⟨c0_i32_223, v255, c1_i32_225⟩
def k0_off27 (k0_t14 : Fin k0_t14_loop.trips) : Fin 1 → Nat :=
  let c0_i32_286 : BitVec 32 := 0#32
  let c0_i32_223 : BitVec 32 := 0#32
  let c1_i32_225 : BitVec 32 := 1#32
  let arg28 : BitVec 32 := Scf.iv c0_i32_223 c1_i32_225 k0_t14
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk18 (v337 : IVec S16 32) : Prop :=
  (∀ a x, ((![v337] : Fin 1 → IVec S16 32) a x).toNat < S25600.size a)
theorem k0_idx18_inb : ∀ (v337 : IVec S16 32) (k0_hw18 : k0_chk18 v337), ∀ a x, ((![v337] : Fin 1 → IVec S16 32) a x).toNat < S25600.size a := fun v337 k0_hw18 => k0_hw18
@[reducible] def k0_t15_loop : Scf.Loop 32 :=
  let c0_i32_239 : BitVec 32 := 0#32
  let c128_i32_240 : BitVec 32 := 128#32
  let v272 : BitVec 32 := Scalar.addi c0_i32_239 c128_i32_240
  let c1_i32_241 : BitVec 32 := 1#32
  ⟨c0_i32_239, v272, c1_i32_241⟩
def k0_off28 (k0_t15 : Fin k0_t15_loop.trips) : Fin 1 → Nat :=
  let c0_i32_286 : BitVec 32 := 0#32
  let c0_i32_239 : BitVec 32 := 0#32
  let c1_i32_241 : BitVec 32 := 1#32
  let arg28 : BitVec 32 := Scf.iv c0_i32_239 c1_i32_241 k0_t15
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk19 (v342 : IVec S16 32) : Prop :=
  (∀ a x, ((![v342] : Fin 1 → IVec S16 32) a x).toNat < S25600.size a)
theorem k0_idx19_inb : ∀ (v342 : IVec S16 32) (k0_hw19 : k0_chk19 v342), ∀ a x, ((![v342] : Fin 1 → IVec S16 32) a x).toNat < S25600.size a := fun v342 k0_hw19 => k0_hw19
def k0_off29 (k0_t15 : Fin k0_t15_loop.trips) : Fin 1 → Nat :=
  let c0_i32_286 : BitVec 32 := 0#32
  let c0_i32_239 : BitVec 32 := 0#32
  let c1_i32_241 : BitVec 32 := 1#32
  let arg28 : BitVec 32 := Scf.iv c0_i32_239 c1_i32_241 k0_t15
  let c1_i32_285 : BitVec 32 := 1#32
  let v326 : BitVec 32 := Scalar.muli arg28 c1_i32_285
  let v327 : BitVec 32 := Scalar.addi c0_i32_286 v326
  let c16_i32_293 : BitVec 32 := 16#32
  let v351 : BitVec 32 := Scalar.muli v327 c16_i32_293
  let v352 : Index := Scalar.indexCast v351
  ![v352.toNat]
@[reducible] def k0_t16_loop : Scf.Loop 32 :=
  let c0_i32_243 : BitVec 32 := 0#32
  let c128_i32_244 : BitVec 32 := 128#32
  let v273 : BitVec 32 := Scalar.addi c0_i32_243 c128_i32_244
  let c1_i32_245 : BitVec 32 := 1#32
  ⟨c0_i32_243, v273, c1_i32_245⟩
def k0_off30 (k0_t16 : Fin k0_t16_loop.trips) : Fin 1 → Nat :=
  let c0_i32_286 : BitVec 32 := 0#32
  let c0_i32_243 : BitVec 32 := 0#32
  let c1_i32_245 : BitVec 32 := 1#32
  let arg28 : BitVec 32 := Scf.iv c0_i32_243 c1_i32_245 k0_t16
  let c1_i32_285 : BitVec 32 := 1#32
  let v326 : BitVec 32 := Scalar.muli arg28 c1_i32_285
  let v327 : BitVec 32 := Scalar.addi c0_i32_286 v326
  let c16_i32 : BitVec 32 := 16#32
  let v328 : BitVec 32 := Scalar.muli v327 c16_i32
  let v329 : Index := Scalar.indexCast v328
  ![v329.toNat]

def k0_chk20 (v337 : IVec S16 32) : Prop :=
  (∀ a x, ((![v337] : Fin 1 → IVec S16 32) a x).toNat < S25600.size a)
theorem k0_idx20_inb : ∀ (v337 : IVec S16 32) (k0_hw20 : k0_chk20 v337), ∀ a x, ((![v337] : Fin 1 → IVec S16 32) a x).toNat < S25600.size a := fun v337 k0_hw20 => k0_hw20
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x2048 : Shape := ⟨2, ![64, 2048]⟩
abbrev S64x100000 : Shape := ⟨2, ![64, 100000]⟩
abbrev S_ : Shape := ⟨0, ![]⟩
abbrev S64x2048x1 : Shape := ⟨3, ![64, 2048, 1]⟩
abbrev S1 : Shape := ⟨1, ![1]⟩
abbrev S1x1x1 : Shape := ⟨3, ![1, 1, 1]⟩
abbrev S64 : Shape := ⟨1, ![64]⟩
abbrev S64x1 : Shape := ⟨2, ![64, 1]⟩
abbrev S64x2048x2 : Shape := ⟨3, ![64, 2048, 2]⟩

abbrev nBuf : Space → Nat
  | .hbm => 55
  | .vmem => 0
  | .smem => 0
  | _ => 0

abbrev bufTy : (tb : Table) → Fin (tcTables nBuf tb) → BufTy
  | .hbm, ⟨0, _⟩ => ⟨S64x2048, .i32⟩
  | .hbm, ⟨1, _⟩ => ⟨S64x100000, .f32⟩
  | .hbm, ⟨2, _⟩ => ⟨S_, .i32⟩
  | .hbm, ⟨3, _⟩ => ⟨S64x2048, .i32⟩
  | .hbm, ⟨4, _⟩ => ⟨S64x2048, .i1⟩
  | .hbm, ⟨5, _⟩ => ⟨S_, .i32⟩
  | .hbm, ⟨6, _⟩ => ⟨S64x2048, .i32⟩
  | .hbm, ⟨7, _⟩ => ⟨S64x2048, .i32⟩
  | .hbm, ⟨8, _⟩ => ⟨S64x2048, .i32⟩
  | .hbm, ⟨9, _⟩ => ⟨S64x2048x1, .i32⟩
  | .hbm, ⟨10, _⟩ => ⟨S1, .i32⟩
  | .hbm, ⟨11, _⟩ => ⟨S_, .i32⟩
  | .hbm, ⟨12, _⟩ => ⟨S64x2048x1, .i32⟩
  | .hbm, ⟨13, _⟩ => ⟨S64x2048x1, .i1⟩
  | .hbm, ⟨14, _⟩ => ⟨S1x1x1, .i32⟩
  | .hbm, ⟨15, _⟩ => ⟨S64x2048x1, .i32⟩
  | .hbm, ⟨16, _⟩ => ⟨S64x2048x1, .i1⟩
  | .hbm, ⟨17, _⟩ => ⟨S64x2048x1, .i1⟩
  | .hbm, ⟨18, _⟩ => ⟨S_, .i1⟩
  | .hbm, ⟨19, _⟩ => ⟨S64x2048, .i1⟩
  | .hbm, ⟨20, _⟩ => ⟨S64x2048, .f32⟩
  | .hbm, ⟨21, _⟩ => ⟨S_, .f32⟩
  | .hbm, ⟨22, _⟩ => ⟨S64x2048, .f32⟩
  | .hbm, ⟨23, _⟩ => ⟨S64x2048, .f32⟩
  | .hbm, ⟨24, _⟩ => ⟨S_, .f32⟩
  | .hbm, ⟨25, _⟩ => ⟨S64x2048, .f32⟩
  | .hbm, ⟨26, _⟩ => ⟨S64x2048, .i1⟩
  | .hbm, ⟨27, _⟩ => ⟨S_, .f32⟩
  | .hbm, ⟨28, _⟩ => ⟨S64x2048, .f32⟩
  | .hbm, ⟨29, _⟩ => ⟨S64x2048, .f32⟩
  | .hbm, ⟨30, _⟩ => ⟨S_, .f32⟩
  | .hbm, ⟨31, _⟩ => ⟨S64x2048, .f32⟩
  | .hbm, ⟨32, _⟩ => ⟨S64x2048, .f32⟩
  | .hbm, ⟨33, _⟩ => ⟨S64x2048, .f32⟩
  | .hbm, ⟨34, _⟩ => ⟨S64, .i32⟩
  | .hbm, ⟨35, _⟩ => ⟨S64x1, .i32⟩
  | .hbm, ⟨36, _⟩ => ⟨S_, .i32⟩
  | .hbm, ⟨37, _⟩ => ⟨S64x1, .i32⟩
  | .hbm, ⟨38, _⟩ => ⟨S64x1, .i1⟩
  | .hbm, ⟨39, _⟩ => ⟨S_, .i32⟩
  | .hbm, ⟨40, _⟩ => ⟨S64x1, .i32⟩
  | .hbm, ⟨41, _⟩ => ⟨S64x1, .i32⟩
  | .hbm, ⟨42, _⟩ => ⟨S64x1, .i32⟩
  | .hbm, ⟨43, _⟩ => ⟨S_, .i32⟩
  | .hbm, ⟨44, _⟩ => ⟨S64x2048, .i32⟩
  | .hbm, ⟨45, _⟩ => ⟨S64x2048, .i1⟩
  | .hbm, ⟨46, _⟩ => ⟨S_, .i32⟩
  | .hbm, ⟨47, _⟩ => ⟨S64x2048, .i32⟩
  | .hbm, ⟨48, _⟩ => ⟨S64x2048, .i32⟩
  | .hbm, ⟨49, _⟩ => ⟨S64x2048, .i32⟩
  | .hbm, ⟨50, _⟩ => ⟨S64x2048, .i32⟩
  | .hbm, ⟨51, _⟩ => ⟨S64x2048x1, .i32⟩
  | .hbm, ⟨52, _⟩ => ⟨S64x2048x1, .i32⟩
  | .hbm, ⟨53, _⟩ => ⟨S64x2048x2, .i32⟩
  | .hbm, ⟨54, _⟩ => ⟨S64x100000, .f32⟩
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩
abbrev main_cst : Ref sig .tc := ⟨.hbm, 24, rfl⟩
abbrev main_v1 : Ref sig .tc := ⟨.hbm, 25, rfl⟩
abbrev main_v2 : Ref sig .tc := ⟨.hbm, 26, rfl⟩
abbrev main_cst_0 : Ref sig .tc := ⟨.hbm, 27, rfl⟩
abbrev main_v3 : Ref sig .tc := ⟨.hbm, 28, rfl⟩
abbrev main_v4 : Ref sig .tc := ⟨.hbm, 29, rfl⟩
abbrev main_cst_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩

abbrev nD : Nat := 1
abbrev τ : Topo := Topo.v7x

variable {F : FTy → Type} [FloatOps F]
-- ==== Proof.Rules.lean ====
/-
  The program as the launch theorem sees it, and the step rules of a tile's body over memrefs owned at known contents.

  A tile owns every memref it touches outright, so each rule is stated over `owns c M fullShare X`: `M` reads `X`.
  A copy lends its source and its destination until its wait (`Lent`), which hands both back with the destination
  reading what the source reads.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Pipeline.Kit
public import Idealize.ShloMosaic.Lib.Memref
public import Idealize.ShloMosaic.Lib.Transfers
public import proofs.«01_k».proof.Proof.Gen.KernelIdeal
public import proofs.«01_k».proof.Proof.Gen.KernelIdeal.Skeleton

@[expose] public section

noncomputable section

namespace Cert.Proof.Penalty

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

def EH : Emb UH (MT nD τ sig (HIx 1) (Elt F) ℕ UU ℕ) := embL
def EC : UEmb Counters (MT nD τ sig (HIx 1) (Elt F) ℕ UU ℕ) := countersEmb

instance EH_landsIn : (EH : Emb UH 𝕄).LandsIn (upEmb : UEmb _ 𝕄) := by unfold EH; infer_instance
instance EC_landsIn : (EC : UEmb Counters 𝕄).LandsIn (upEmb : UEmb _ 𝕄) := by unfold EC; infer_instance

variable [FloatOps F]

/-! ## What a tile owes, and one copy in flight -/

section Steps

variable (c : Thread nD τ)

/-- The thread owes `O`, and every wait it has recorded since `W` was of a copy of its own. -/
def Due (O : CellTallies nD τ sig (HIx 1)) (W : Waits sig (HIx 1)) : sProp 𝕄 :=
  iprop(∃ W', ⌜∀ p ∈ W', p ∈ W ∨ p.2 = none⌝ ∗ owes c O W')

/-- A copy in flight on a semaphore, crediting what its destination does, that will hand back the destination at the
    source's contents, and the source. -/
def Lent {sp sp' : Space} {s : Shape} {e : EltTy} (src : Memref sig c.2.kind sp s e) (dst : Memref sig c.2.kind sp' s e)
    (sm : DmaSem sig) (X : s.Idx → Elt F e) : sProp 𝕄 :=
  Transfers.Flight EC c (.dma sm) none dst.view.dmaCredit iprop(owns c dst fullShare X ∗ owns c src fullShare X)

variable {Λ : Labels} {defs : Defs nD τ sig (Elt F) Λ} (𝒲 : Variants) (bd : Option 𝒲.V)
variable {α : Type} {Q : α → sProp (MT nD τ sig (HIx 1) (Elt F) ℕ UU ℕ)} {sp sp' : Space} {s : Shape} {e : EltTy}

/-- A load through a rectangle returns the memref's values there. -/
theorem step_load {cs : CoreSpace} {M : Memref sig c.2.kind cs s e} {r : Rect s} {hl : M.view.LoadsAt r}
    {k : (r.shape.Idx → Elt F e) → Prog (TpuEff nD τ sig (Elt F) Λ c.2) α} {X : s.Idx → Elt F e} :
    owns c M fullShare X
      ⊢ iprop((owns c M fullShare X -∗ wp frame (wpE defs 𝒲 c bd) Set.univ (k fun x => X (r.emb x)) Q)
        -∗ wp frame (wpE defs 𝒲 c bd) Set.univ (.op (.load M r hl) k) Q) := by
  unfold owns
  iintro ⟨%f, %hf, H⟩ Hk
  iapply (wp_load_rect 𝒲 c bd Set.univ (m := M) (r := r) (S := M.view.set) (View.set_slice_subset _ _)) $$ H
  iintro H
  have hv : (M.access r).read (Elt F) f = fun x => X (r.emb x) := by rw [← hf]; rfl
  rw [hv]
  iapply Hk
  iexists f; isplitr; · ipureintro; exact hf
  iexact H

/-- A store over a rectangle overwrites the memref's values there. -/
theorem step_store {cs : CoreSpace} {M : Memref sig c.2.kind cs s e} {r : Rect s} {w : r.shape.Idx → Elt F e}
    {hx : (M.access r).Stores Finset.univ} {hm}
    {k : PUnit → Prog (TpuEff nD τ sig (Elt F) Λ c.2) α} {X : s.Idx → Elt F e} :
    owns c M fullShare X
      ⊢ iprop((owns c M fullShare (r.overlay X w) -∗ wp frame (wpE defs 𝒲 c bd) Set.univ (k ⟨⟩) Q)
        -∗ wp frame (wpE defs 𝒲 c bd) Set.univ (.op (.store M r w Finset.univ hx hm) k) Q) := by
  unfold owns
  iintro ⟨%f, %hf, H⟩ Hk
  iapply (wp_store 𝒲 c bd Set.univ (m := M) (r := r) (S := M.view.set)
    (show (M.access r).setOn Finset.univ ⊆ M.view.set from View.set_slice_subset _ _)) $$ H
  iintro H
  iapply Hk
  iexists _; isplitr
  rotate_left
  · iexact H
  · ipureintro
    funext x
    by_cases hx : x ∈ r.set
    · obtain ⟨y, rfl⟩ := r.exists_idx_of_mem hx
      change M.view.read (Elt F) _ (r.emb y) = r.overlay X w (r.emb y)
      rw [Rect.overlay_emb]
      exact congrFun (View.read_write_univ (v := M.access r) f w) y
    · rw [Rect.overlay_of_not_mem _ _ _ hx, ← hf, View.read_apply, View.read_apply, View.write_of_not_mem]
      rw [View.setOn_univ, View.set_slice, Finset.mem_map' M.view.emb]; exact hx

/-- An indexed load gathers the memref's values. -/
theorem step_gather {t : Shape} {M : Memref sig c.2.kind .vmem s e} {idxs : Fin s.rank → IVec t 32}
    {h : ∀ a x, (idxs a x).toNat < s.size a} {hl : M.view.Loads} {k : Vec F t e → Prog (TpuEff nD τ sig (Elt F) Λ c.2) α}
    {X : s.Idx → Elt F e} :
    owns c M fullShare X
      ⊢ iprop((owns c M fullShare X -∗ wp frame (wpE defs 𝒲 c bd) Set.univ (k (loadIdx X idxs h)) Q)
        -∗ wp frame (wpE defs 𝒲 c bd) Set.univ (SparseCore.vectorLoadIdx M idxs h hl >>= k) Q) := by
  unfold owns
  iintro ⟨%f, %hf, H⟩ Hk
  iapply (SparseCore.wp_vectorLoadIdx 𝒲 c bd Set.univ (base := M) (S := M.view.set) (View.set_slice_subset _ _)) $$ H
  iintro H
  have hv : (M.access (.whole s)).read (Elt F) f = X := by
    rw [← hf]; funext x
    exact congrArg (M.view.read (Elt F) f) (Rect.emb_whole_apply s x)
  rw [hv]
  iapply Hk
  iexists f; isplitr; · ipureintro; exact hf
  iexact H

/-- An indexed store scatters over the memref's values. -/
theorem step_scatter {d : Fin 1 → Nat} {M : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (M.access (.whole s)).Stores Finset.univ}
    {k : PUnit → Prog (TpuEff nD τ sig (Elt F) Λ c.2) α} {X : s.Idx → Elt F e} :
    owns c M fullShare X
      ⊢ iprop((owns c M fullShare (storeIdx X idxs v mask add h) -∗ wp frame (wpE defs 𝒲 c bd) Set.univ (k ⟨⟩) Q)
        -∗ wp frame (wpE defs 𝒲 c bd) Set.univ (SparseCore.vectorStoreIdx M idxs v mask add h hs >>= k) Q) := by
  have hset : (M.access (.whole s)).set = M.view.set := by
    rw [View.set_slice, Rect.set_whole]; rfl
  have hv (f) : (M.access (.whole s)).read (Elt F) f = M.view.read (Elt F) f := by
    funext x
    exact congrArg (M.view.read (Elt F) f) (Rect.emb_whole_apply s x)
  unfold owns
  iintro ⟨%f, %hf, H⟩ Hk
  ihave H' := (Entails.of_eq (show (M.view.loc c ↦[M.view.set]{fullShare} f : sProp 𝕄)
    = (M.access (.whole s)).loc c ↦[(M.access (.whole s)).set]{fullShare} f by rw [hset])) $$ H
  iapply (SparseCore.wp_vectorStoreIdx 𝒲 c bd Set.univ (base := M)) $$ H'
  iintro H
  iapply Hk
  iexists ((M.access (.whole s)).write (Elt F) f (storeIdx ((M.access (.whole s)).read (Elt F) f) idxs v mask add h) Finset.univ)
  isplitr
  · ipureintro
    rw [← hv, View.read_write_univ, hv, hf]
  · rw [hset]; iexact H

/-- Starting a copy lends both memrefs. -/
theorem step_start {src : Memref sig c.2.kind sp s e} {dst : Memref sig c.2.kind sp' s e} {sm : DmaSem sig}
    {hsrc : src.view.WordExact} {hdst : dst.view.WordExact} {hsem}
    {k : PUnit → Prog (TpuEff nD τ sig (Elt F) Λ c.2) α} {X Y : s.Idx → Elt F e} (hpos : 0 < s.numel) :
    (iprop(owns c src fullShare X ∗ owns c dst fullShare Y ∗ semVal (c, .dma sm) 0) : sProp 𝕄)
      ⊢ iprop((Lent c src dst sm X -∗ wp frame (wpE defs 𝒲 c bd) Set.univ (k ⟨⟩) Q)
        -∗ wp frame (wpE defs 𝒲 c bd) Set.univ (.op (.enqueueDma src (.here dst) (.dma sm) hsrc hdst hsem) k) Q) := by
  unfold owns
  iintro ⟨⟨%f, %hf, Hs⟩, ⟨%g, %hg, Hd⟩, Hv⟩ Hk
  iapply (Transfers.wp_dmaLocal EC 𝒲 c bd (src := src) (dst := dst) (sm := .dma sm) none dst.view.dmaCredit (View.amount_dma _ _)
    (View.dmaCredit_pos _ hpos) (Sd := dst.view.set) subset_rfl) $$ [Hs Hd Hv]
  · isplitl [Hs]; · iexact Hs
    isplitl [Hd] <;> iassumption
  iintro Hfl
  iapply Hk
  unfold Lent
  iapply (Transfers.Flight_mono EC c ?_) $$ Hfl
  unfold owns
  iintro ⟨Hd, Hs⟩
  isplitl [Hd]
  · iexists _; isplitr
    rotate_left
    · iexact Hd
    · ipureintro
      rw [View.read_write_univ]; exact hf
  · iexists f; isplitr; · ipureintro; exact hf
    iexact Hs

/-- Waiting for it hands both back. -/
theorem step_wait {src : Memref sig c.2.kind sp s e} {dst : Memref sig c.2.kind sp' s e} {sm : DmaSem sig}
    {hsrc : src.view.WordExact} {hdst : dst.view.WordExact}
    {k : PUnit → Prog (TpuEff nD τ sig (Elt F) Λ c.2) α} {X : s.Idx → Elt F e}
    {O : CellTallies nD τ sig (HIx 1)} {W : Waits sig (HIx 1)} :
    (iprop(Lent c src dst sm X ∗ Due c O W ∗ Transfers.MayWaits c none O) : sProp 𝕄)
      ⊢ iprop((iprop(owns c dst fullShare X ∗ owns c src fullShare X ∗ semVal (c, .dma sm) 0 ∗ Due c O W)
            -∗ wp frame (wpE defs 𝒲 c bd) Set.univ (k ⟨⟩) Q)
        -∗ wp frame (wpE defs 𝒲 c bd) Set.univ (.op (.waitDma2 sm src dst hsrc hdst) k) Q) := by
  unfold Lent Due
  iintro ⟨Hfl, ⟨%W', %hW, HO⟩, Hmw⟩ Hk
  ihave Hm := (Transfers.MayWaits.elim (SemLoc.dma sm)) $$ Hmw
  iapply (Transfers.wp_waitLocalO EC 𝒲 c bd (srcw := src) (dstw := dst) none rfl) $$ [Hfl HO Hm]
  · isplitl [Hfl]; · iexact Hfl
    isplitl [HO] <;> iassumption
  iintro ⟨⟨Hd, Hs⟩, Hv, HO⟩
  iapply Hk
  isplitl [Hd]; · iexact Hd
  isplitl [Hs]; · iexact Hs
  isplitl [Hv]; · iexact Hv
  iexists _; isplitr
  rotate_left
  · iexact HO
  · ipureintro
    intro p hp
    rcases Finset.mem_insert.mp hp with rfl | hp
    · exact .inr rfl
    · exact hW p hp

/-- The part of a memref outside one of its rectangles, at some contents. -/
def Rest (M : Memref sig c.2.kind sp s e) (r : Rect s) : sProp 𝕄 :=
  iprop(∃ f, M.view.loc c ↦[M.view.set \ (M.view.slice r).set]{fullShare} f)

/-- A memref is one of its slices and the rest; -/
theorem take_slice {M : Memref sig c.2.kind sp s e} (r : Rect s) (hr : ∀ a, r.stride a = 1) (X : s.Idx → Elt F e) :
    (owns c M fullShare X : sProp 𝕄) ⊢ iprop(owns c (M.slice r hr) fullShare (fun i => X (r.emb i)) ∗ Rest (F := F) c M r) := by
  refine (owns_slice_split c M fullShare r hr X).trans ?_
  unfold Rest
  iintro ⟨H, %f, -, Hr⟩
  isplitl [H]; · iexact H
  iexists f; iexact Hr

/-- and back, at contents that agree with the slice's. -/
theorem put_slice {M : Memref sig c.2.kind sp s e} (r : Rect s) (hr : ∀ a, r.stride a = 1) (G : r.shape.Idx → Elt F e) :
    iprop(owns c (M.slice r hr) fullShare G ∗ Rest (F := F) c M r)
      ⊢ (iprop(∃ X, ⌜∀ i, X (r.emb i) = G i⌝ ∗ owns c M fullShare X) : sProp 𝕄) := by
  unfold Rest
  iintro ⟨H, %f, Hr⟩
  iexists (r.overlay (M.view.read (Elt F) f) G); isplitr
  · ipureintro; exact fun i => Rect.overlay_emb _ _ _ _
  iapply (owns_slice_join c M fullShare r hr G f)
  isplitl [H] <;> iassumption

end Steps

end Cert.Proof.Penalty
-- ==== Proof.Lanes.lean ====
/-
  The values of the kernel, sixteen lanes at a time: the penalised value, the position of an id inside a chunk of a row,
  the lanes that fall in the chunk, what a masked scatter of sixteen lanes leaves, and what a run of gathers and a run of
  scatters over the first `16 k` ids have done.
-/
module

public import proofs.«01_k».proof.Proof.Rules
public import Idealize.ShloMosaic.Lib.WordCmp

@[expose] public section

noncomputable section

namespace Cert.Proof.Penalty

open Cert.KernelIdeal Cert.KernelIdeal.Gen
open Idealize.ShloMosaic

variable {F : FTy → Type} [FloatOps F]

/-- A vector of `n` places. -/
abbrev Line (n : ℕ) : Shape := ⟨1, ![n]⟩

/-! ## One value -/

/-- The penalised value: below zero times the penalty, otherwise divided by it. -/
def pen (v : F .f32) : F .f32 :=
  Scalar.select (FloatOps.cmpf .olt v (FloatOps.ofBits .f32 0x00000000#32))
    (FloatOps.mulf v (FloatOps.ofBits .f32 0x3F99999A#32)) (FloatOps.divf v (FloatOps.ofBits .f32 0x3F99999A#32))

/-- A row of the result: the row of scores `R`, penalised where one of the row's ids `I` points. -/
def outRow (I : S2048.Idx → BitVec 32) (R : ℕ → F .f32) (j : ℕ) : F .f32 :=
  open Classical in if ∃ t, (I t).toNat = j then pen (R j) else R j

/-! ## Sixteen lanes -/

/-- The ids' positions inside the chunk that starts at `lo`; an id outside it wraps or runs past its end. -/
def posOf (lo : BitVec 32) (v : IVec S16 32) : IVec S16 32 := subi v (broadcast S16 lo)
/-- The lanes whose position lies in a chunk of `sz` places. -/
def inChunk (sz : BitVec 32) (p : IVec S16 32) : IVec S16 1 :=
  andi (cmpi .sge p (broadcast S16 0#32)) (cmpi .slt p (broadcast S16 sz))
/-- The lanes whose position does not wrap: those in the last chunk of a row, every id being inside the row. -/
def inTail (p : IVec S16 32) : IVec S16 1 := cmpi .sge p (broadcast S16 0#32)
/-- The positions read and written: those of the lanes the mask keeps, 0 elsewhere. -/
def clipTo (mask : IVec S16 1) (p : IVec S16 32) : IVec S16 32 := select mask p (broadcast S16 0#32)
/-- The penalised values of sixteen lanes. -/
def penLanes (g : FVec F S16 .f32) : FVec F S16 .f32 :=
  select (cmpf .olt g (broadcast S16 (Scalar.ofBits .f32 0x00000000#32)))
    (mulf g (broadcast S16 (Scalar.ofBits .f32 0x3F99999A#32))) (divf g (broadcast S16 (Scalar.ofBits .f32 0x3F99999A#32)))

theorem penLanes_apply (g : FVec F S16 .f32) (x : S16.Idx) : penLanes g x = pen (g x) := rfl

/-- A mask keeps exactly the lanes whose id lies in the chunk of `sz` places from `lo`. -/
def Keeps (mask : IVec S16 32 → IVec S16 1) (lo : BitVec 32) (sz : ℕ) : Prop :=
  ∀ (p : IVec S16 32) (x : S16.Idx) (a : BitVec 32), a.toNat < 100000 → p x = a - lo → (mask p x = 1 ↔ (p x).toNat < sz)

theorem toInt_nonneg_iff (a : BitVec 32) : (0 ≤ a.toInt) ↔ a.toNat < 2 ^ 31 := by
  rw [BitVec.toInt_eq_toNat_cond]; have := a.isLt; split_ifs <;> omega

theorem keeps_inChunk (lo sz : BitVec 32) (hsz : sz.toNat < 2 ^ 31) : Keeps (inChunk sz) lo sz.toNat := by
  intro p x a _ _
  show IntOp.andi (IntOp.cmpi .sge (p x) 0#32) (IntOp.cmpi .slt (p x) sz) = 1 ↔ _
  rw [WordCmp.cmpi_sge_eq, WordCmp.cmpi_slt_eq, WordCmp.andi_ofBool, WordCmp.ofBool_eq_one_iff']
  simp only [Bool.and_eq_true, decide_eq_true_eq]
  rw [WordCmp.toInt_eq_toNat_of_lt_half (x := sz) hsz]
  have h0 : (0#32).toInt = 0 := rfl
  rw [h0]
  rw [BitVec.toInt_eq_toNat_cond]; have := (p x).isLt; split_ifs <;> omega

theorem keeps_inTail : Keeps inTail 99968#32 32 := by
  intro p x a ha hp
  show IntOp.cmpi .sge (p x) 0#32 = 1 ↔ _
  rw [WordCmp.cmpi_sge_eq, WordCmp.ofBool_eq_one_iff', decide_eq_true_eq]
  have h0 : (0#32).toInt = 0 := rfl
  rw [h0, toInt_nonneg_iff, hp, BitVec.toNat_sub]
  have : (99968#32).toNat = 99968 := rfl
  rw [this]
  omega

/-- The positions read and written lie inside a buffer at least as long as the chunk. -/
theorem clip_lt {mask : IVec S16 32 → IVec S16 1} {lo : BitVec 32} {sz n : ℕ} (hm : Keeps mask lo sz) (hn : 0 < n) (hsz : sz ≤ n)
    {p : IVec S16 32} {I : S16.Idx → BitVec 32} (hI : ∀ x, (I x).toNat < 100000) (hp : ∀ x, p x = I x - lo) (x : S16.Idx) :
    (clipTo (mask p) p x).toNat < n := by
  show (Scalar.select (mask p x) (p x) 0#32).toNat < n
  by_cases h : mask p x = 1
  · rw [show Scalar.select (mask p x) (p x) 0#32 = p x by rw [Scalar.select, if_pos h]]
    exact lt_of_lt_of_le ((hm p x (I x) (hI x) (hp x)).mp h) hsz
  · rw [show Scalar.select (mask p x) (p x) 0#32 = 0#32 by rw [Scalar.select, if_neg h]]
    exact hn

/-- A kept lane reads and writes at its own position. -/
theorem clip_kept {mask : IVec S16 1} {p : IVec S16 32} {x : S16.Idx} (h : mask x = 1) : clipTo mask p x = p x := by
  show Scalar.select (mask x) (p x) 0#32 = p x
  rw [Scalar.select, if_pos h]

/-- A masked scatter of sixteen lanes, each kept lane carrying the value that its own place is to take: the places some
    kept lane names take theirs, the others keep what they held. -/
theorem storeIdx_apply {n : ℕ} {e : EltTy} (f : Vec F (Line n) e) (idx : IVec S16 32) (v : Vec F S16 e) (mask : IVec S16 1)
    (h : ∀ a x, ((![idx] : Fin 1 → IVec S16 32) a x).toNat < (Line n).size a) (y : (Line n).Idx → Elt F e)
    (hv : ∀ x, mask x = 1 → ∀ j : (Line n).Idx, (j 0).val = (idx x).toNat → v x = y j) (j : (Line n).Idx) :
    storeIdx (s := Line n) f ![idx] v mask false h j
      = open Classical in if ∃ x : S16.Idx, mask x = 1 ∧ (idx x).toNat = (j 0).val then y j else f j := by
  classical
  let hit (k : Fin ((![16] : Fin 1 → ℕ) 0)) (j : (Line n).Idx) : Prop :=
    mask (Shape.ofLane (d := ![16]) k) = 1 ∧ (idx (Shape.ofLane (d := ![16]) k)).toNat = (j 0).val
  have key (st : Vec F (Line n) e → Fin ((![16] : Fin 1 → ℕ) 0) → Vec F (Line n) e)
      (hst : ∀ g k j, st g k j = if hit k j then y j else g j) :
      ∀ (l : List (Fin ((![16] : Fin 1 → ℕ) 0))) (g : Vec F (Line n) e), l.foldl st g j = if ∃ k ∈ l, hit k j then y j else g j := by
    intro l
    induction l with
    | nil => intro g; exact (if_neg (by rintro ⟨k, hk, -⟩; cases hk)).symm
    | cons k l ih =>
      intro g
      rw [List.foldl_cons, ih, hst]
      by_cases hl : ∃ k ∈ l, hit k j
      · obtain ⟨k', hk', h'⟩ := hl
        rw [if_pos ⟨k', hk', h'⟩, if_pos ⟨k', List.mem_cons_of_mem _ hk', h'⟩]
      · rw [if_neg hl]
        refine if_congr ⟨fun h' => ⟨k, List.mem_cons_self, h'⟩, ?_⟩ rfl rfl
        rintro ⟨k', hk', h'⟩
        rcases List.mem_cons.mp hk' with rfl | hk'
        · exact h'
        · exact absurd ⟨k', hk', h'⟩ hl
  unfold storeIdx
  refine (key _ (fun g k j => ?_) (List.finRange _) f).trans ?_
  · by_cases hm : mask (Shape.ofLane (d := ![16]) k) = 1
    · refine (congrFun (if_pos hm) j).trans ?_
      by_cases hj : (idx (Shape.ofLane (d := ![16]) k)).toNat = (j 0).val
      · rw [if_pos (show hit k j from ⟨hm, hj⟩)]
        refine (if_pos fun a => ?_).trans (hv _ hm j hj.symm)
        obtain rfl : a = 0 := Subsingleton.elim _ _
        exact hj.symm
      · rw [if_neg (fun h' : hit k j => hj h'.2)]
        exact if_neg fun ha => hj (ha 0).symm
    · rw [if_neg (fun h' : hit k j => hm h'.1)]
      exact congrFun (if_neg hm) j
  have hx (x : S16.Idx) : Shape.ofLane (d := ![16]) (x 0) = x := by
    funext a
    obtain rfl : a = 0 := Subsingleton.elim _ _
    rfl
  refine if_congr ⟨?_, ?_⟩ rfl rfl
  · rintro ⟨k, -, h'⟩; exact ⟨_, h'⟩
  · rintro ⟨x, h'⟩
    refine ⟨x 0, List.mem_finRange _, ?_⟩
    exact (congrArg (fun z => mask z = 1 ∧ (idx z).toNat = (j 0).val) (hx x)).mpr h'

/-! ## Runs of lanes -/

/-- Sixteen ids from place `16 k`. -/
theorem lanes_inb {k : ℕ} (hk : k < 128) {o : Fin 1 → ℕ} (ho : o = ![16 * k]) : ∀ a, o a + S16.size a ≤ S2048.size a := by
  subst ho
  intro a
  obtain rfl : a = 0 := Subsingleton.elim _ _
  show 16 * k + 16 ≤ 2048; omega

section Lanes

variable {o : Fin 1 → ℕ} {inb : ∀ a, o a + S16.size a ≤ S2048.size a} {k : ℕ}

theorem lane_val (ho : o = ![16 * k]) (x : S16.Idx) : (((Rect.unit (s := S2048) o S16.size inb).emb x) 0).val = 16 * k + (x 0).val := by
  subst ho
  show 16 * k + 1 * (x 0).val = _
  omega

/-- A place below `16 (k + 1)` is one of the sixteen from `16 k` or lies below `16 k`. -/
theorem lane_cases (ho : o = ![16 * k]) (t : S2048.Idx) (ht : (t 0).val < 16 * (k + 1)) :
    (∃ x, t = (Rect.unit (s := S2048) o S16.size inb).emb x) ∨ ((t 0).val < 16 * k ∧ t ∉ (Rect.unit (s := S2048) o S16.size inb).set) := by
  have hmem : ∀ x, t = (Rect.unit (s := S2048) o S16.size inb).emb x → (t 0).val = 16 * k + (x 0).val :=
    fun x hx => by rw [hx, lane_val ho]
  by_cases h : 16 * k ≤ (t 0).val
  · left
    refine ⟨fun a => ⟨(t 0).val - 16 * k, ?_⟩, ?_⟩
    · obtain rfl : a = 0 := Subsingleton.elim _ _
      show (t 0).val - 16 * k < 16; omega
    · funext a
      obtain rfl : a = 0 := Subsingleton.elim _ _
      apply Fin.ext
      rw [lane_val ho]
      show (t 0).val = 16 * k + ((t 0).val - 16 * k); omega
  · right
    refine ⟨by omega, fun hm => ?_⟩
    obtain ⟨x, hx⟩ := LoadRect.exists_idx_of_mem _ hm
    have := hmem x hx.symm
    omega

end Lanes

section Runs

variable {n : ℕ} (I : S2048.Idx → BitVec 32) (lo : BitVec 32) (sz : ℕ) (w : (Line n).Idx → F .f32)

/-- After the gathers of the first `16 k` ids: their positions are stored, and beside each that lies in the chunk the
    penalised value it points at. -/
def Gathered (k : ℕ) (L : S2048.Idx → BitVec 32) (U : S2048.Idx → F .f32) : Prop :=
  ∀ t : S2048.Idx, (t 0).val < 16 * k → L t = I t - lo ∧ ∀ x : (Line n).Idx, (x 0).val < sz → (x 0).val = (I t - lo).toNat → U t = pen (w x)

/-- After the scatters of the first `16 k`: the places of the chunk they name are penalised, the chunk's other places
    are as they were. -/
def Scattered (k : ℕ) (w' : (Line n).Idx → F .f32) : Prop :=
  ∀ x : (Line n).Idx, (x 0).val < sz →
    w' x = open Classical in if ∃ t : S2048.Idx, (t 0).val < 16 * k ∧ (I t - lo).toNat = (x 0).val then pen (w x) else w x

variable {I lo sz w}

theorem gathered_zero (L U) : Gathered I lo sz w 0 L U := fun t ht => absurd ht (by omega)

theorem scattered_zero : Scattered I lo sz w 0 w := by
  intro x _
  rw [if_neg]
  rintro ⟨t, ht, -⟩; omega

variable {o o' : Fin 1 → ℕ} {inb : ∀ a, o a + S16.size a ≤ S2048.size a} {inb' : ∀ a, o' a + S16.size a ≤ S2048.size a} {k : ℕ}
  {mask : IVec S16 32 → IVec S16 1}

/-- One gather of sixteen lanes. -/
theorem gathered_step (hI : ∀ t, (I t).toNat < 100000) (hm : Keeps mask lo sz) (ho : o = ![16 * k]) (ho' : o' = ![16 * k])
    {L : S2048.Idx → BitVec 32} {U : S2048.Idx → F .f32} (hG : Gathered I lo sz w k L U)
    {v : IVec S16 32} (hv : ∀ x, v x = I ((Rect.unit (s := S2048) o S16.size inb).emb x))
    (h : ∀ a x, ((![clipTo (mask (posOf lo v)) (posOf lo v)] : Fin 1 → IVec S16 32) a x).toNat < (Line n).size a) :
    Gathered I lo sz w (k + 1) ((Rect.unit (s := S2048) o S16.size inb).overlay L (posOf lo v))
      ((Rect.unit (s := S2048) o' S16.size inb').overlay U
        (penLanes (loadIdx (F := F) (e := .f32) (s := Line n) (t := S16) w ![clipTo (mask (posOf lo v)) (posOf lo v)] h))) := by
  subst ho
  subst ho'
  intro t ht
  rcases lane_cases (inb := inb) rfl t ht with ⟨x, rfl⟩ | ⟨hlt, hnm⟩
  · rw [Rect.overlay_emb, Rect.overlay_emb]
    have hp : posOf lo v x = I ((Rect.unit (s := S2048) ![16 * k] S16.size inb).emb x) - lo := by
      rw [← hv]; rfl
    refine ⟨hp, fun y hy hyx => ?_⟩
    rw [penLanes_apply]
    have hk : mask (posOf lo v) x = 1 := (hm _ x _ (hI _) hp).mpr (by rw [hp, ← hyx]; exact hy)
    congr 1
    show w _ = w y
    congr 1
    funext a
    obtain rfl : a = 0 := Subsingleton.elim _ _
    apply Fin.ext
    show (clipTo (mask (posOf lo v)) (posOf lo v) x).toNat = (y 0).val
    rw [clip_kept hk, hp, ← hyx]
  · rw [Rect.overlay_of_not_mem _ _ _ hnm, Rect.overlay_of_not_mem _ _ _ hnm]
    exact hG t hlt

/-- One scatter of sixteen lanes, the gathers all done. -/
theorem scattered_step (hI : ∀ t, (I t).toNat < 100000) (hm : Keeps mask lo sz) (hk128 : k < 128) (ho : o = ![16 * k]) (ho' : o' = ![16 * k])
    {L : S2048.Idx → BitVec 32} {U : S2048.Idx → F .f32} (hG : Gathered I lo sz w 128 L U)
    {w' : (Line n).Idx → F .f32} (hS : Scattered I lo sz w k w')
    {p : IVec S16 32} (hp : p = fun x => L ((Rect.unit (s := S2048) o S16.size inb).emb x))
    {v : FVec F S16 .f32} (hv : v = fun x => U ((Rect.unit (s := S2048) o' S16.size inb').emb x))
    (h : ∀ a x, ((![clipTo (mask p) p] : Fin 1 → IVec S16 32) a x).toNat < (Line n).size a) :
    Scattered I lo sz w (k + 1) (storeIdx (F := F) (e := .f32) (s := Line n) w' ![clipTo (mask p) p] v (mask p) false h) := by
  classical
  subst ho
  subst ho'
  have hlt (x : S16.Idx) : (((Rect.unit (s := S2048) ![16 * k] S16.size inb).emb x) 0).val < 16 * 128 := by
    rw [lane_val rfl]; have : (x 0).val < 16 := (x 0).isLt; omega
  have hpx (x : S16.Idx) : p x = I ((Rect.unit (s := S2048) ![16 * k] S16.size inb).emb x) - lo := by
    rw [hp]; exact (hG _ (hlt x)).1
  have hkeep (x : S16.Idx) : mask p x = 1 ↔ (I ((Rect.unit (s := S2048) ![16 * k] S16.size inb).emb x) - lo).toNat < sz := by
    rw [hm p x _ (hI _) (hpx x), hpx]
  intro y hy
  rw [show storeIdx (F := F) (e := .f32) (s := Line n) w' ![clipTo (mask p) p] v (mask p) false h y = _ from storeIdx_apply (F := F) (e := .f32) w' _ v (mask p) h (fun j => pen (w j)) ?_ y]
  · by_cases hex : ∃ x : S16.Idx, mask p x = 1 ∧ (clipTo (mask p) p x).toNat = (y 0).val
    · rw [if_pos hex, if_pos]
      obtain ⟨x, hx, hxy⟩ := hex
      rw [clip_kept hx, hpx] at hxy
      refine ⟨_, ?_, hxy⟩
      rw [lane_val rfl]; have : (x 0).val < 16 := (x 0).isLt; omega
    · rw [if_neg hex, hS y hy]
      refine if_congr ⟨?_, ?_⟩ rfl rfl
      · rintro ⟨t, ht, hty⟩; exact ⟨t, by omega, hty⟩
      · rintro ⟨t, ht, hty⟩
        rcases lane_cases (inb := inb) rfl t ht with ⟨x, rfl⟩ | ⟨hlt', -⟩
        · refine absurd ⟨x, (hkeep x).mpr (by rw [hty]; exact hy), ?_⟩ hex
          rw [clip_kept ((hkeep x).mpr (by rw [hty]; exact hy)), hpx, hty]
        · exact ⟨t, hlt', hty⟩
  · intro x hx j hj
    rw [clip_kept hx, hpx] at hj
    rw [hv]
    exact (hG _ (hlt x)).2 j (by rw [hj]; exact (hkeep x).mp hx) hj

/-- After all the scatters a chunk of a row holds that part of the row's result. -/
theorem scattered_all {R : ℕ → F .f32} (hlo : lo.toNat + sz ≤ 100000) (hw : ∀ x : (Line n).Idx, (x 0).val < sz → w x = R (lo.toNat + (x 0).val))
    {w' : (Line n).Idx → F .f32} (hS : Scattered I lo sz w 128 w') (x : (Line n).Idx) (hx : (x 0).val < sz) :
    w' x = outRow I R (lo.toNat + (x 0).val) := by
  classical
  rw [hS x hx, hw x hx]
  unfold outRow
  refine if_congr ⟨?_, ?_⟩ rfl rfl
  · rintro ⟨t, -, ht⟩
    refine ⟨t, ?_⟩
    rw [BitVec.toNat_sub] at ht
    have := (I t).isLt; have := lo.isLt; omega
  · rintro ⟨t, ht⟩
    refine ⟨t, ?_, ?_⟩
    · have : (t 0).val < 2048 := (t 0).isLt; omega
    · rw [BitVec.toNat_sub]
      have := (I t).isLt; have := lo.isLt; omega

end Runs

end Cert.Proof.Penalty
-- ==== Proof.Trips.lean ====
/-
  The kernel's two loops over sixteen ids at a time, each proved once over the chunk it works on: the gathers, that leave
  beside every id's position in the chunk its penalised value, and the scatters, that write those values to the chunk.
-/
module

public import proofs.«01_k».proof.Proof.Rules
public import proofs.«01_k».proof.Proof.Lanes

@[expose] public section

noncomputable section

namespace Cert.Proof.Penalty

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The tile at grid coordinates `i`. -/
abbrev tileAt (i : grid0.Coords) : Proc τ := .scVector ((i 0).castLE hcore0) ((i 1).castLE hsub0)
/-- Its thread. -/
abbrev thr (d : Fin nD) (i : grid0.Coords) : Thread nD τ := (d, tileAt i)

/-- A memref of a tile's own memory. -/
abbrev Tile (n : ℕ) (e : EltTy) : Type := Memref sig .scVector .vmem (Line n) e

/-- A loop's offsets: sixteen places from `16 k`. -/
structure Sixteens (N : ℕ) where
  at' : Fin N → Fin 1 → ℕ
  inb : ∀ k, ∀ a, at' k a + S16.size a ≤ S2048.size a
  eq : ∀ k, at' k = ![16 * k.val]

/-- The rectangle a trip reads or writes. -/
abbrev Sixteens.rect {N : ℕ} (o : Sixteens N) (k : Fin N) : Rect S2048 := Rect.unit (s := S2048) (o.at' k) S16.size (o.inb k)

/-- Two loops' offsets are the same places. -/
theorem Sixteens.eq' {N : ℕ} {I : S2048.Idx → BitVec 32} (o p : Sixteens N) (k : Fin N) :
    (fun x : S16.Idx => I ((p.rect k).emb x)) = fun x => I ((o.rect k).emb x) := by
  obtain ⟨a, inb, ha⟩ := o
  obtain ⟨b, inb', hb⟩ := p
  obtain rfl : a = b := by funext k; rw [ha, hb]
  rfl

/-- The side condition of an indexed access to `n` places. -/
abbrev Within (n : ℕ) (v : IVec S16 32) : Prop := ∀ a x, ((![v] : Fin 1 → IVec S16 32) a x).toNat < (Line n).size a

theorem within_of {n : ℕ} {v : IVec S16 32} (h : ∀ x, (v x).toNat < n) : Within n v := by
  intro a x
  obtain rfl : a = 0 := Subsingleton.elim _ _
  exact h x

/-- A chunk's buffers: where the positions, the penalised values and the chunk itself are kept. -/
structure Bufs (n : ℕ) where
  pos : Tile 2048 .i32
  val : Tile 2048 .f32
  buf : Tile n .f32

/-- What a chunk is: where it starts, how many places it has, and the mask that keeps its lanes. -/
structure Chunk (n : ℕ) where
  lo : BitVec 32
  sz : ℕ
  mask : IVec S16 32 → IVec S16 1
  dec : ∀ v : IVec S16 32, Decidable (Within n v)
  keeps : Keeps mask lo sz
  pos : 0 < n
  le : sz ≤ n

variable (d : Fin nD) (i : grid0.Coords)
variable {n : ℕ} (C : Chunk n) (B : Bufs n) (I : S2048.Idx → BitVec 32) (w : (Line n).Idx → F .f32)

/-! ## What the buffers hold -/

/-- After `k` trips of the gathers. -/
def GatherAt (k : ℕ) : sProp 𝕄 :=
  iprop(owns (thr d i) B.buf fullShare w ∗ ∃ L U, ⌜Gathered I C.lo C.sz w k L U⌝ ∗ owns (thr d i) B.pos fullShare L ∗ owns (thr d i) B.val fullShare U)

/-- After `k` trips of the scatters. -/
def ScatterAt (k : ℕ) : sProp 𝕄 :=
  iprop(∃ L U w', ⌜Gathered I C.lo C.sz w 128 L U ∧ Scattered I C.lo C.sz w k w'⌝ ∗ owns (thr d i) B.pos fullShare L
    ∗ owns (thr d i) B.val fullShare U ∗ owns (thr d i) B.buf fullShare w')

theorem gather_init {L : S2048.Idx → BitVec 32} {U : S2048.Idx → F .f32} :
    (iprop(owns (thr d i) B.buf fullShare w ∗ owns (thr d i) B.pos fullShare L ∗ owns (thr d i) B.val fullShare U) : sProp 𝕄)
      ⊢ GatherAt d i C B I w 0 := by
  unfold GatherAt
  iintro ⟨Hb, Hp, Hv⟩
  isplitl [Hb]; · iexact Hb
  iexists L, U; isplitr; · ipureintro; exact gathered_zero _ _
  isplitl [Hp] <;> iassumption

theorem gather_done : GatherAt d i C B I w 128 ⊢ ScatterAt d i C B I w 0 := by
  unfold GatherAt ScatterAt
  iintro ⟨Hb, %L, %U, %h, Hp, Hv⟩
  iexists L, U, w; isplitr; · ipureintro; exact ⟨h, scattered_zero⟩
  isplitl [Hp]; · iexact Hp
  isplitl [Hv] <;> iassumption

variable {N : ℕ}

/-! ## One trip's share of a chunk -/

variable (F) in
/-- The positions of sixteen ids, the gather at them, and the penalised values. -/
def gatherHalf (o o' : Sixteens N) (h16 : 0 < S16.numel) (hn : B.buf.view.Loads) (k : Fin N) (v : IVec S16 32) :
    Prog (TpuEff nD τ sig (Elt F) Λ₀ (tileAt i)) PUnit := do
  let _ ← Prog.lift (.load B.pos (o.rect k).toLoadRect (View.loadsAt_vmem h16))
  Prog.lift (.store B.pos (o.rect k) (posOf C.lo v) Finset.univ (View.stores_vmem_bits_univ h16 rfl) (.inl rfl))
  have hw : Within n (clipTo (C.mask (posOf C.lo v)) (posOf C.lo v)) :=
    (← Prog.lift (TpuEff.assume (Within n (clipTo (C.mask (posOf C.lo v)) (posOf C.lo v))) (C.dec _))).down
  let g : Vec F S16 .f32 ← SparseCore.vectorLoadIdx B.buf ![clipTo (C.mask (posOf C.lo v)) (posOf C.lo v)] hw hn
  let _ ← Prog.lift (.load B.val (o'.rect k).toLoadRect (View.loadsAt_vmem h16))
  Prog.lift (.store B.val (o'.rect k) (penLanes g) Finset.univ (View.stores_vmem_bits_univ h16 rfl) (.inl rfl))

variable (F) in
/-- The positions and values of sixteen ids read back, and the scatter of the ones that fall in the chunk. -/
def scatterHalf (o o' : Sixteens N) (h16 : 0 < S16.numel) (hn : (B.buf.access (.whole (Line n))).Stores Finset.univ) (k : Fin N) :
    Prog (TpuEff nD τ sig (Elt F) Λ₀ (tileAt i)) PUnit := do
  let p : Vec F S16 .i32 ← Prog.lift (.load B.pos (o.rect k).toLoadRect (View.loadsAt_vmem h16))
  have hw : Within n (clipTo (C.mask p) p) := (← Prog.lift (TpuEff.assume (Within n (clipTo (C.mask p) p)) (C.dec _))).down
  let v : Vec F S16 .f32 ← Prog.lift (.load B.val (o'.rect k).toLoadRect (View.loadsAt_vmem h16))
  SparseCore.vectorStoreIdx B.buf ![clipTo (C.mask p) p] v (C.mask p) false hw hn
  pure ⟨⟩

variable {C B I w}

theorem wp_gatherHalf (o o' : Sixteens N) {h16 : 0 < S16.numel} {hn : B.buf.view.Loads} (k : Fin N) {v : IVec S16 32}
    (hI : ∀ t, (I t).toNat < 100000) (hv : v = fun x => I ((o.rect k).emb x)) :
    GatherAt d i C B I w k.val
      ⊢ wp frame (wpE (defs₀ (F := F)) 𝒱₀ (thr d i) none) Set.univ (gatherHalf F i C B o o' h16 hn k v) (fun _ => GatherAt d i C B I w (k.val + 1)) := by
  have hp : ∀ x, posOf C.lo v x = I ((o.rect k).emb x) - C.lo := fun x => by rw [hv]; rfl
  have hw : Within n (clipTo (C.mask (posOf C.lo v)) (posOf C.lo v)) :=
    within_of (clip_lt (I := fun x => I ((o.rect k).emb x)) C.keeps C.pos C.le (fun _ => hI _) hp)
  unfold GatherAt gatherHalf
  iintro ⟨Hb, %L, %U, %hG, Hp, Hv⟩
  simp only [Prog.lift, Prog.bind_op, Prog.bind_ret, Prog.pure_eq_ret]
  iapply (step_load (thr d i) 𝒱₀ none) $$ Hp
  iintro Hp
  iapply (step_store (thr d i) 𝒱₀ none) $$ Hp
  iintro Hp
  iapply (wp_assume 𝒱₀ (thr d i) none Set.univ hw)
  iapply (step_gather (thr d i) 𝒱₀ none) $$ Hb
  iintro Hb
  iapply (step_load (thr d i) 𝒱₀ none) $$ Hv
  iintro Hv
  iapply (step_store (thr d i) 𝒱₀ none) $$ Hv
  iintro Hv
  rw [wp_ret]
  imodintro
  isplitl [Hb]; · iexact Hb
  iexists _, _; isplitr
  rotate_left
  · isplitl [Hp]
    · iexact Hp
    · iexact Hv
  · ipureintro
    exact gathered_step hI C.keeps (o.eq k) (o'.eq k) hG (fun x => by rw [hv]) hw

theorem wp_scatterHalf (o o' : Sixteens N) {h16 : 0 < S16.numel} {hn : (B.buf.access (.whole (Line n))).Stores Finset.univ} (hN : N = 128) (k : Fin N)
    (hI : ∀ t, (I t).toNat < 100000) :
    ScatterAt d i C B I w k.val
      ⊢ wp frame (wpE (defs₀ (F := F)) 𝒱₀ (thr d i) none) Set.univ (scatterHalf F i C B o o' h16 hn k) (fun _ => ScatterAt d i C B I w (k.val + 1)) := by
  unfold ScatterAt scatterHalf
  iintro ⟨%L, %U, %w', %hGS, Hp, Hv, Hb⟩
  obtain ⟨hG, hS⟩ := hGS
  have hk : k.val < 128 := hN ▸ k.isLt
  have hp : ∀ x, L ((o.rect k).emb x) = I ((o.rect k).emb x) - C.lo := fun x => (hG _ (by
    rw [lane_val (o.eq k)]; have : (x 0).val < 16 := (x 0).isLt; omega)).1
  have hw : Within n (clipTo (C.mask fun x => L ((o.rect k).emb x)) fun x => L ((o.rect k).emb x)) :=
    within_of (clip_lt (I := fun x => I ((o.rect k).emb x)) C.keeps C.pos C.le (fun _ => hI _) hp)
  simp only [Prog.lift, Prog.bind_op, Prog.bind_ret, Prog.pure_eq_ret]
  iapply (step_load (thr d i) 𝒱₀ none) $$ Hp
  iintro Hp
  iapply (wp_assume 𝒱₀ (thr d i) none Set.univ hw)
  iapply (step_load (thr d i) 𝒱₀ none) $$ Hv
  iintro Hv
  iapply (step_scatter (thr d i) 𝒱₀ none) $$ Hb
  iintro Hb
  rw [wp_ret]
  imodintro
  iexists L, U, _; isplitr
  rotate_left
  · isplitl [Hp]; · iexact Hp
    isplitl [Hv]; · iexact Hv
    iexact Hb
  · ipureintro
    exact ⟨hG, scattered_step hI C.keeps hk (o.eq k) (o'.eq k) hG hS rfl rfl hw⟩

/-! ## The loops -/

/-- A memref owned at some contents. -/
def Held {sp : Space} {s : Shape} {e : EltTy} (M : Memref sig .scVector sp s e) : sProp 𝕄 := iprop(∃ X, owns (thr d i) M fullShare X)

theorem held_intro {sp : Space} {s : Shape} {e : EltTy} {M : Memref sig .scVector sp s e} {X : s.Idx → Elt F e} :
    (owns (thr d i) M fullShare X : sProp 𝕄) ⊢ Held d i M := by
  unfold Held; iintro H; iexists X; iexact H

/-- A chunk's buffer penalised: the part of the row's result that starts at `lo`. -/
def Finished (C : Chunk n) (M : Tile n .f32) (I : S2048.Idx → BitVec 32) (R : ℕ → F .f32) : sProp 𝕄 :=
  iprop(∃ w', ⌜∀ x : (Line n).Idx, (x 0).val < C.sz → w' x = outRow I R (C.lo.toNat + (x 0).val)⌝ ∗ owns (thr d i) M fullShare w')

/-- A chunk's buffer loaded: the part of the row of scores that starts at `lo`. -/
def Loaded (C : Chunk n) (M : Tile n .f32) (R : ℕ → F .f32) : sProp 𝕄 :=
  iprop(∃ w, ⌜∀ x : (Line n).Idx, (x 0).val < C.sz → w x = R (C.lo.toNat + (x 0).val)⌝ ∗ owns (thr d i) M fullShare w)

/-- After the gathers of a chunk: every position and value stored, its buffer as loaded. -/
def Staged (C : Chunk n) (B : Bufs n) (I : S2048.Idx → BitVec 32) (R : ℕ → F .f32) : sProp 𝕄 :=
  iprop(∃ w, ⌜∀ x : (Line n).Idx, (x 0).val < C.sz → w x = R (C.lo.toNat + (x 0).val)⌝ ∗ ScatterAt d i C B I w 0)

variable {α : Type} {Q : α → sProp (MT nD τ sig (HIx 1) (Elt F) ℕ UU ℕ)} {R : ℕ → F .f32}

theorem scatter_done (hlo : C.lo.toNat + C.sz ≤ 100000)
    (hw : ∀ x : (Line n).Idx, (x 0).val < C.sz → w x = R (C.lo.toNat + (x 0).val)) :
    ScatterAt d i C B I w 128 ⊢ iprop(Held (F := F) d i B.pos ∗ Held (F := F) d i B.val ∗ Finished d i C B.buf I R) := by
  unfold ScatterAt Finished
  iintro ⟨%L, %U, %w', %h, Hp, Hv, Hb⟩
  isplitl [Hp]; · iapply (held_intro d i); iexact Hp
  isplitl [Hv]; · iapply (held_intro d i); iexact Hv
  iexists w'; isplitr; · ipureintro; exact fun x hx => scattered_all hlo hw h.2 x hx
  iexact Hb

/-- A program proved to end in `P'`, followed by another. -/
theorem wp_then {β : Type} {P P' : sProp (MT nD τ sig (HIx 1) (Elt F) ℕ UU ℕ)} {p : Prog (TpuEff nD τ sig (Elt F) Λ₀ (tileAt i)) β}
    (h : P ⊢ wp frame (wpE (defs₀ (F := F)) 𝒱₀ (thr d i) none) Set.univ p (fun _ => P'))
    {kk : β → Prog (TpuEff nD τ sig (Elt F) Λ₀ (tileAt i)) α} :
    P ⊢ iprop((∀ a, P' -∗ wp frame (wpE (defs₀ (F := F)) 𝒱₀ (thr d i) none) Set.univ (kk a) Q)
      -∗ wp frame (wpE (defs₀ (F := F)) 𝒱₀ (thr d i) none) Set.univ (p >>= kk) Q) := by
  rw [wp_bind]
  exact h.trans (wp_wand frame _ _)

/-- A loop of 128 trips at the head of a program, by what holds after each. -/
theorem loop_of {l : Scf.Loop 32} (hl : l.trips = 128) (hok : l.OK) {body : Fin l.trips → Unit → Prog (TpuEff nD τ sig (Elt F) Λ₀ (tileAt i)) Unit}
    {P : ℕ → sProp (MT nD τ sig (HIx 1) (Elt F) ℕ UU ℕ)}
    (hbody : ∀ k u, P k.val ⊢ wp frame (wpE (defs₀ (F := F)) 𝒱₀ (thr d i) none) Set.univ (body k u) (fun _ => P (k.val + 1)))
    {kk : Unit → Prog (TpuEff nD τ sig (Elt F) Λ₀ (tileAt i)) α} :
    P 0 ⊢ iprop((P 128 -∗ wp frame (wpE (defs₀ (F := F)) 𝒱₀ (thr d i) none) Set.univ (kk ⟨⟩) Q)
        -∗ wp frame (wpE (defs₀ (F := F)) 𝒱₀ (thr d i) none) Set.univ (Scf.Loop.for l hok ⟨⟩ body >>= kk) Q) := by
  iintro HP Hk
  iapply (Scf.wp_for_bind frame _ _ l.lb l.ub l.st hok ⟨⟩ body (fun k _ => P k) hbody) $$ HP
  iintro %_ HP
  iapply Hk
  rw [← hl]; iexact HP

/-- The gathers of one chunk. -/
theorem gather_loop {l : Scf.Loop 32} (hl : l.trips = 128) (hok : l.OK) (ids : Tile 2048 .i32) (C : Chunk n) (B : Bufs n)
    (o₀ o o' : Sixteens l.trips) (h16 : 0 < S16.numel) (hn : B.buf.view.Loads) {body : Fin l.trips → Unit → Prog (TpuEff nD τ sig (Elt F) Λ₀ (tileAt i)) Unit}
    (hb : ∀ k u, body k u = do
      let v : Vec F S16 .i32 ← Prog.lift (.load ids (o₀.rect k).toLoadRect (View.loadsAt_vmem h16))
      gatherHalf F i C B o o' h16 hn k v
      pure ⟨⟩)
    (hI : ∀ t, (I t).toNat < 100000) {kk : Unit → Prog (TpuEff nD τ sig (Elt F) Λ₀ (tileAt i)) α} :
    (iprop(owns (thr d i) ids fullShare I ∗ Loaded d i C B.buf R ∗ Held (F := F) d i B.pos ∗ Held (F := F) d i B.val) : sProp 𝕄)
      ⊢ iprop((iprop(owns (thr d i) ids fullShare I ∗ Staged d i C B I R) -∗ wp frame (wpE (defs₀ (F := F)) 𝒱₀ (thr d i) none) Set.univ (kk ⟨⟩) Q)
        -∗ wp frame (wpE (defs₀ (F := F)) 𝒱₀ (thr d i) none) Set.univ (Scf.Loop.for l hok ⟨⟩ body >>= kk) Q) := by
  unfold Loaded Held
  iintro ⟨Hi, ⟨%w, %hw, Hb⟩, ⟨%L, Hp⟩, %U, Hv⟩ Hk
  iapply (loop_of d i hl hok (P := fun k => iprop(owns (thr d i) ids fullShare I ∗ GatherAt d i C B I w k)) (fun k u => ?_)) $$ [Hi Hb Hp Hv]
  · rw [hb, Prog.bind_lift]
    iintro ⟨Hi, HG⟩
    iapply (step_load (thr d i) 𝒱₀ none) $$ Hi
    iintro Hi
    iapply (wp_then d i (wp_gatherHalf d i o o' k hI (o.eq' o₀ k))) $$ HG
    iintro %_ HG
    rw [Prog.pure_eq_ret, wp_ret]
    imodintro
    isplitl [Hi] <;> iassumption
  · isplitl [Hi]; · iexact Hi
    iapply (gather_init d i C B I w)
    isplitl [Hb]; · iexact Hb
    isplitl [Hp] <;> iassumption
  iintro ⟨Hi, HG⟩
  iapply Hk
  isplitl [Hi]; · iexact Hi
  unfold Staged
  iexists w; isplitr; · ipureintro; exact hw
  iapply (gather_done d i C B I w); iexact HG

/-- The scatters of one chunk. -/
theorem scatter_loop {l : Scf.Loop 32} (hl : l.trips = 128) (hok : l.OK) (C : Chunk n) (B : Bufs n)
    (o o' : Sixteens l.trips) (h16 : 0 < S16.numel) (hn : (B.buf.access (.whole (Line n))).Stores Finset.univ)
    {body : Fin l.trips → Unit → Prog (TpuEff nD τ sig (Elt F) Λ₀ (tileAt i)) Unit}
    (hb : ∀ k u, body k u = do scatterHalf F i C B o o' h16 hn k; pure ⟨⟩)
    (hI : ∀ t, (I t).toNat < 100000) (hlo : C.lo.toNat + C.sz ≤ 100000) {kk : Unit → Prog (TpuEff nD τ sig (Elt F) Λ₀ (tileAt i)) α} :
    Staged d i C B I R
      ⊢ iprop((iprop(Held (F := F) d i B.pos ∗ Held (F := F) d i B.val ∗ Finished d i C B.buf I R) -∗ wp frame (wpE (defs₀ (F := F)) 𝒱₀ (thr d i) none) Set.univ (kk ⟨⟩) Q)
        -∗ wp frame (wpE (defs₀ (F := F)) 𝒱₀ (thr d i) none) Set.univ (Scf.Loop.for l hok ⟨⟩ body >>= kk) Q) := by
  unfold Staged
  iintro ⟨%w, %hw, HS⟩ Hk
  iapply (loop_of d i hl hok (P := fun k => ScatterAt d i C B I w k) (fun k u => ?_)) $$ HS
  · rw [hb]
    iintro HS
    iapply (wp_then d i (wp_scatterHalf d i o o' hl k hI)) $$ HS
    iintro %_ HS
    rw [Prog.pure_eq_ret, wp_ret]
    imodintro
    iexact HS
  iintro HS
  iapply Hk
  iapply (scatter_done d i hlo hw) $$ HS

variable {n' : ℕ}

/-- The gathers of two chunks, one trip doing both. -/
theorem gather_loop₂ {l : Scf.Loop 32} (hl : l.trips = 128) (hok : l.OK) (ids : Tile 2048 .i32) (C : Chunk n) (B : Bufs n) (C' : Chunk n') (B' : Bufs n')
    (o₀ o o' p p' : Sixteens l.trips) (h16 : 0 < S16.numel) (hn : B.buf.view.Loads) (hn' : B'.buf.view.Loads)
    {body : Fin l.trips → Unit → Prog (TpuEff nD τ sig (Elt F) Λ₀ (tileAt i)) Unit}
    (hb : ∀ k u, body k u = do
      let v : Vec F S16 .i32 ← Prog.lift (.load ids (o₀.rect k).toLoadRect (View.loadsAt_vmem h16))
      gatherHalf F i C B o o' h16 hn k v
      gatherHalf F i C' B' p p' h16 hn' k v
      pure ⟨⟩)
    (hI : ∀ t, (I t).toNat < 100000) {kk : Unit → Prog (TpuEff nD τ sig (Elt F) Λ₀ (tileAt i)) α} :
    (iprop(owns (thr d i) ids fullShare I ∗ (Loaded d i C B.buf R ∗ Held (F := F) d i B.pos ∗ Held (F := F) d i B.val)
        ∗ (Loaded d i C' B'.buf R ∗ Held (F := F) d i B'.pos ∗ Held (F := F) d i B'.val)) : sProp 𝕄)
      ⊢ iprop((iprop(owns (thr d i) ids fullShare I ∗ Staged d i C B I R ∗ Staged d i C' B' I R)
          -∗ wp frame (wpE (defs₀ (F := F)) 𝒱₀ (thr d i) none) Set.univ (kk ⟨⟩) Q)
        -∗ wp frame (wpE (defs₀ (F := F)) 𝒱₀ (thr d i) none) Set.univ (Scf.Loop.for l hok ⟨⟩ body >>= kk) Q) := by
  unfold Loaded Held
  iintro ⟨Hi, ⟨⟨%w, %hw, Hb⟩, ⟨%L, Hp⟩, %U, Hv⟩, ⟨%w', %hw', Hb'⟩, ⟨%L', Hp'⟩, %U', Hv'⟩ Hk
  iapply (loop_of d i hl hok (P := fun k => iprop(owns (thr d i) ids fullShare I ∗ GatherAt d i C B I w k ∗ GatherAt d i C' B' I w' k)) (fun k u => ?_)) $$ [Hi Hb Hp Hv Hb' Hp' Hv']
  · rw [hb, Prog.bind_lift]
    iintro ⟨Hi, HG, HG'⟩
    iapply (step_load (thr d i) 𝒱₀ none) $$ Hi
    iintro Hi
    iapply (wp_then d i (wp_gatherHalf d i o o' k hI (o.eq' o₀ k))) $$ HG
    iintro %_ HG
    iapply (wp_then d i (wp_gatherHalf d i p p' k hI (p.eq' o₀ k))) $$ HG'
    iintro %_ HG'
    rw [Prog.pure_eq_ret, wp_ret]
    imodintro
    isplitl [Hi]; · iexact Hi
    isplitl [HG] <;> iassumption
  · isplitl [Hi]; · iexact Hi
    isplitl [Hb Hp Hv]
    · iapply (gather_init d i C B I w)
      isplitl [Hb]; · iexact Hb
      isplitl [Hp] <;> iassumption
    · iapply (gather_init d i C' B' I w')
      isplitl [Hb']; · iexact Hb'
      isplitl [Hp'] <;> iassumption
  iintro ⟨Hi, HG, HG'⟩
  iapply Hk
  isplitl [Hi]; · iexact Hi
  unfold Staged
  isplitl [HG]
  · iexists w; isplitr; · ipureintro; exact hw
    iapply (gather_done d i C B I w); iexact HG
  · iexists w'; isplitr; · ipureintro; exact hw'
    iapply (gather_done d i C' B' I w'); iexact HG'

/-- The scatters of two chunks, one trip doing both. -/
theorem scatter_loop₂ {l : Scf.Loop 32} (hl : l.trips = 128) (hok : l.OK) (C : Chunk n) (B : Bufs n) (C' : Chunk n') (B' : Bufs n')
    (o o' p p' : Sixteens l.trips) (h16 : 0 < S16.numel) (hn : (B.buf.access (.whole (Line n))).Stores Finset.univ)
    (hn' : (B'.buf.access (.whole (Line n'))).Stores Finset.univ)
    {body : Fin l.trips → Unit → Prog (TpuEff nD τ sig (Elt F) Λ₀ (tileAt i)) Unit}
    (hb : ∀ k u, body k u = do scatterHalf F i C B o o' h16 hn k; scatterHalf F i C' B' p p' h16 hn' k; pure ⟨⟩)
    (hI : ∀ t, (I t).toNat < 100000) (hlo : C.lo.toNat + C.sz ≤ 100000) (hlo' : C'.lo.toNat + C'.sz ≤ 100000)
    {kk : Unit → Prog (TpuEff nD τ sig (Elt F) Λ₀ (tileAt i)) α} :
    (iprop(Staged d i C B I R ∗ Staged d i C' B' I R) : sProp 𝕄)
      ⊢ iprop((iprop((Held (F := F) d i B.pos ∗ Held (F := F) d i B.val ∗ Finished d i C B.buf I R)
            ∗ (Held (F := F) d i B'.pos ∗ Held (F := F) d i B'.val ∗ Finished d i C' B'.buf I R))
          -∗ wp frame (wpE (defs₀ (F := F)) 𝒱₀ (thr d i) none) Set.univ (kk ⟨⟩) Q)
        -∗ wp frame (wpE (defs₀ (F := F)) 𝒱₀ (thr d i) none) Set.univ (Scf.Loop.for l hok ⟨⟩ body >>= kk) Q) := by
  unfold Staged
  iintro ⟨⟨%w, %hw, HS⟩, %w', %hw', HS'⟩ Hk
  iapply (loop_of d i hl hok (P := fun k => iprop(ScatterAt d i C B I w k ∗ ScatterAt d i C' B' I w' k)) (fun k u => ?_)) $$ [HS HS']
  · rw [hb]
    iintro ⟨HS, HS'⟩
    iapply (wp_then d i (wp_scatterHalf d i o o' hl k hI)) $$ HS
    iintro %_ HS
    iapply (wp_then d i (wp_scatterHalf d i p p' hl k hI)) $$ HS'
    iintro %_ HS'
    rw [Prog.pure_eq_ret, wp_ret]
    imodintro
    isplitl [HS] <;> iassumption
  · isplitl [HS] <;> iassumption
  iintro ⟨HS, HS'⟩
  iapply Hk
  isplitl [HS]
  · iapply (scatter_done d i hlo hw) $$ HS
  · iapply (scatter_done d i hlo' hw') $$ HS'

end Cert.Proof.Penalty
-- ==== Proof.Copies.lean ====
/-
  The copies of a tile's body, each as one step: a chunk of a row of scores into a buffer, a penalised buffer out to a
  chunk of a row of the result. The larger buffers are copied through a slice from their first place, the tails' whole.
-/
module

public import proofs.«01_k».proof.Proof.Trips

@[expose] public section

noncomputable section

namespace Cert.Proof.Penalty

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- `sz` places of a row from place `lo`. -/
def rowPart {V : Type} (R : ℕ → V) (lo sz : ℕ) : (Line sz).Idx → V := fun x => R (lo + (x 0).val)

variable (d : Fin nD) (i : grid0.Coords) (O : CellTallies nD τ sig (HIx 1)) (W : Waits sig (HIx 1))

/-- A semaphore of the tile's own, at zero. -/
def Idle (sm : DmaSem sig) : sProp 𝕄 := semVal (thr d i, .dma sm) 0

/-- What the tile owes, with the evidence its waits take. -/
def Going : sProp 𝕄 := iprop(Due (thr d i) O W ∗ Transfers.MayWaits (thr d i) none O)

/-- The first `sz` places of a buffer. -/
abbrev firstOf {n sz : ℕ} (buf : Tile n .f32) (inb : ∀ a, (![0] : Fin 1 → ℕ) a + (Line sz).size a ≤ (Line n).size a) : Tile sz .f32 :=
  buf.slice (Rect.unit (s := Line n) ![0] (Line sz).size inb) (fun _ => rfl)

/-- A copy into the first `sz` places of a buffer, in flight. -/
def Filling {n sz : ℕ} (src : Memref sig .scVector .hbm (Line sz) .f32) (buf : Tile n .f32)
    (inb : ∀ a, (![0] : Fin 1 → ℕ) a + (Line sz).size a ≤ (Line n).size a) (sm : DmaSem sig) (X : (Line sz).Idx → F .f32) : sProp 𝕄 :=
  iprop(Lent (thr d i) src (firstOf buf inb) sm X ∗ Rest (F := F) (thr d i) buf (Rect.unit (s := Line n) ![0] (Line sz).size inb))

/-- A copy out of the first `sz` places of a buffer, in flight. -/
def Draining {n sz : ℕ} (buf : Tile n .f32) (dst : Memref sig .scVector .hbm (Line sz) .f32)
    (inb : ∀ a, (![0] : Fin 1 → ℕ) a + (Line sz).size a ≤ (Line n).size a) (sm : DmaSem sig) (X : (Line sz).Idx → F .f32) : sProp 𝕄 :=
  iprop(Lent (thr d i) (firstOf buf inb) dst sm X ∗ Rest (F := F) (thr d i) buf (Rect.unit (s := Line n) ![0] (Line sz).size inb))

variable {α : Type} {Q : α → sProp (MT nD τ sig (HIx 1) (Elt F) ℕ UU ℕ)}
variable {n sz : ℕ} {buf : Tile n .f32} {inb : ∀ a, (![0] : Fin 1 → ℕ) a + (Line sz).size a ≤ (Line n).size a} {sm : DmaSem sig}
  {src : Memref sig .scVector .hbm (Line sz) .f32} {I : S2048.Idx → BitVec 32} {R : ℕ → F .f32}
  {k : PUnit → Prog (TpuEff nD τ sig (Elt F) Λ₀ (tileAt i)) α}

theorem first_val (x : (Line sz).Idx) : (((Rect.unit (s := Line n) ![0] (Line sz).size inb).emb x) 0).val = (x 0).val := by
  show 0 + 1 * (x 0).val = _
  omega

theorem line_numel {m : ℕ} (hm : 0 < m) : 0 < (Line m).numel := by
  show 0 < ∏ a : Fin 1, (![m] : Fin 1 → ℕ) a
  simpa using hm

variable {O W}

/-- Starting the copy of a chunk in; -/
theorem start_fill {hsrc : src.view.WordExact} {hdst : (firstOf buf inb).view.WordExact} {hsem} {X : (Line sz).Idx → F .f32} (hpos : 0 < sz) :
    (iprop(owns (thr d i) src fullShare X ∗ Held (F := F) d i buf ∗ Idle (F := F) d i sm) : sProp 𝕄)
      ⊢ iprop((Filling d i src buf inb sm X -∗ wp frame (wpE (defs₀ (F := F)) 𝒱₀ (thr d i) none) Set.univ (k ⟨⟩) Q)
        -∗ wp frame (wpE (defs₀ (F := F)) 𝒱₀ (thr d i) none) Set.univ (.op (.enqueueDma src (.here (firstOf buf inb)) (.dma sm) hsrc hdst hsem) k) Q) := by
  unfold Held Idle Filling
  iintro ⟨Hs, ⟨%Y, Hb⟩, Hv⟩ Hk
  ihave H := (take_slice (thr d i) (M := buf) (Rect.unit (s := Line n) ![0] (Line sz).size inb) (fun _ => rfl) Y) $$ Hb
  icases H with ⟨Hb, Hr⟩
  iapply (step_start (thr d i) 𝒱₀ none (line_numel hpos)) $$ [Hs Hb Hv]
  · isplitl [Hs]; · iexact Hs
    isplitl [Hb]; · iexact Hb
    iexact Hv
  iintro Hl
  iapply Hk
  isplitl [Hl] <;> iassumption

/-- and its wait: the buffer is loaded. -/
theorem wait_fill (C : Chunk n) {lo : ℕ} (hsz : C.sz = sz) (hlo : C.lo.toNat = lo) {hsrc : src.view.WordExact} {hdst : (firstOf buf inb).view.WordExact} :
    (iprop(Filling d i src buf inb sm (rowPart R lo sz) ∗ Going (F := F) d i O W) : sProp 𝕄)
      ⊢ iprop((iprop(owns (thr d i) src fullShare (rowPart R lo sz) ∗ Loaded d i C buf R ∗ Idle (F := F) d i sm ∗ Going (F := F) d i O W)
            -∗ wp frame (wpE (defs₀ (F := F)) 𝒱₀ (thr d i) none) Set.univ (k ⟨⟩) Q)
        -∗ wp frame (wpE (defs₀ (F := F)) 𝒱₀ (thr d i) none) Set.univ (.op (.waitDma2 sm src (firstOf buf inb) hsrc hdst) k) Q) := by
  unfold Filling Going Idle Loaded
  iintro ⟨⟨Hl, Hr⟩, Hd, #Hm⟩ Hk
  iapply (step_wait (thr d i) 𝒱₀ none) $$ [Hl Hd]
  · isplitl [Hl]; · iexact Hl
    isplitl [Hd]; · iexact Hd
    iexact Hm
  iintro ⟨Hb, Hs, Hv, Hd⟩
  ihave H := (put_slice (thr d i) (M := buf) (Rect.unit (s := Line n) ![0] (Line sz).size inb) (fun _ => rfl) (rowPart R lo sz)) $$ [Hb Hr]
  · isplitl [Hb]; · iexact Hb
    iexact Hr
  icases H with ⟨%w, %hw, Hb⟩
  iapply Hk
  isplitl [Hs]; · iexact Hs
  isplitl [Hb]
  · iexists w; isplitr
    · ipureintro
      intro x hx
      have he : (Rect.unit (s := Line n) ![0] (Line sz).size inb).emb (fun a => ⟨(x 0).val, by
          obtain rfl : a = 0 := Subsingleton.elim _ _
          exact hsz ▸ hx⟩) = x := by
        funext a
        obtain rfl : a = 0 := Subsingleton.elim _ _
        apply Fin.ext
        show 0 + 1 * (x 0).val = (x 0).val
        omega
      rw [hlo, ← he, hw]
      show R (lo + (x 0).val) = R (lo + (0 + 1 * (x 0).val))
      congr 2; omega
    · iexact Hb
  isplitl [Hv]; · iexact Hv
  isplitl [Hd] <;> iassumption

/-- Starting the copy of a penalised chunk out; -/
theorem start_drain (C : Chunk n) {lo : ℕ} (hsz : C.sz = sz) (hlo : C.lo.toNat = lo) {hsrc : (firstOf buf inb).view.WordExact} {hdst : src.view.WordExact} {hsem}
    (hpos : 0 < sz) :
    (iprop(Finished d i C buf I R ∗ Held (F := F) d i src ∗ Idle (F := F) d i sm) : sProp 𝕄)
      ⊢ iprop((Draining d i buf src inb sm (rowPart (outRow I R) lo sz) -∗ wp frame (wpE (defs₀ (F := F)) 𝒱₀ (thr d i) none) Set.univ (k ⟨⟩) Q)
        -∗ wp frame (wpE (defs₀ (F := F)) 𝒱₀ (thr d i) none) Set.univ (.op (.enqueueDma (firstOf buf inb) (.here src) (.dma sm) hsrc hdst hsem) k) Q) := by
  unfold Held Idle Draining Finished
  iintro ⟨⟨%w, %hw, Hb⟩, ⟨%Y, Hs⟩, Hv⟩ Hk
  have hX : (fun x : (Line sz).Idx => w ((Rect.unit (s := Line n) ![0] (Line sz).size inb).emb x)) = rowPart (outRow I R) lo sz := by
    funext x
    have hx : (x 0).val < sz := (x 0).isLt
    rw [hw _ (by rw [first_val, hsz]; exact hx), first_val, hlo]
    rfl
  ihave H := ((take_slice (thr d i) (M := buf) (Rect.unit (s := Line n) ![0] (Line sz).size inb) (fun _ => rfl) w).trans
    (Entails.of_eq (congrArg (fun X : (Line sz).Idx → F .f32 => (iprop(owns (thr d i) (firstOf buf inb) fullShare X
      ∗ Rest (F := F) (thr d i) buf (Rect.unit (s := Line n) ![0] (Line sz).size inb)) : sProp 𝕄)) hX))) $$ Hb
  icases H with ⟨Hb, Hr⟩
  iapply (step_start (thr d i) 𝒱₀ none (line_numel hpos)) $$ [Hs Hb Hv]
  · isplitl [Hb]; · iexact Hb
    isplitl [Hs]; · iexact Hs
    iexact Hv
  iintro Hl
  iapply Hk
  isplitl [Hl] <;> iassumption

/-- and its wait. -/
theorem wait_drain {X : (Line sz).Idx → F .f32} {hsrc : (firstOf buf inb).view.WordExact} {hdst : src.view.WordExact} :
    (iprop(Draining d i buf src inb sm X ∗ Going (F := F) d i O W) : sProp 𝕄)
      ⊢ iprop((iprop(owns (thr d i) src fullShare X ∗ Held (F := F) d i buf ∗ Idle (F := F) d i sm ∗ Going (F := F) d i O W)
            -∗ wp frame (wpE (defs₀ (F := F)) 𝒱₀ (thr d i) none) Set.univ (k ⟨⟩) Q)
        -∗ wp frame (wpE (defs₀ (F := F)) 𝒱₀ (thr d i) none) Set.univ (.op (.waitDma2 sm (firstOf buf inb) src hsrc hdst) k) Q) := by
  unfold Draining Going Idle
  iintro ⟨⟨Hl, Hr⟩, Hd, #Hm⟩ Hk
  iapply (step_wait (thr d i) 𝒱₀ none) $$ [Hl Hd]
  · isplitl [Hl]; · iexact Hl
    isplitl [Hd]; · iexact Hd
    iexact Hm
  iintro ⟨Hs, Hb, Hv, Hd⟩
  ihave H := (put_slice (thr d i) (M := buf) (Rect.unit (s := Line n) ![0] (Line sz).size inb) (fun _ => rfl) X) $$ [Hb Hr]
  · isplitl [Hb]; · iexact Hb
    iexact Hr
  icases H with ⟨%w, -, Hb⟩
  iapply Hk
  isplitl [Hs]; · iexact Hs
  isplitl [Hb]; · iapply (held_intro d i); iexact Hb
  isplitl [Hv]; · iexact Hv
  isplitl [Hd] <;> iassumption

/-! ## Whole buffers -/

section Whole

variable {sp sp' : Space} {s : Shape} {e : EltTy} {M : Memref sig .scVector sp s e} {N : Memref sig .scVector sp' s e}

/-- Starting a copy between whole memrefs; -/
theorem start_copy {hsrc : M.view.WordExact} {hdst : N.view.WordExact} {hsem} {X : s.Idx → Elt F e} (hpos : 0 < s.numel) :
    (iprop(owns (thr d i) M fullShare X ∗ Held (F := F) d i N ∗ Idle (F := F) d i sm) : sProp 𝕄)
      ⊢ iprop((Lent (thr d i) M N sm X -∗ wp frame (wpE (defs₀ (F := F)) 𝒱₀ (thr d i) none) Set.univ (k ⟨⟩) Q)
        -∗ wp frame (wpE (defs₀ (F := F)) 𝒱₀ (thr d i) none) Set.univ (.op (.enqueueDma M (.here N) (.dma sm) hsrc hdst hsem) k) Q) := by
  unfold Held Idle
  iintro ⟨Hs, ⟨%Y, Hb⟩, Hv⟩ Hk
  iapply (step_start (thr d i) 𝒱₀ none hpos) $$ [Hs Hb Hv]
  · isplitl [Hs]; · iexact Hs
    isplitl [Hb]; · iexact Hb
    iexact Hv
  iintro Hl
  iapply Hk; iexact Hl

/-- and its wait. -/
theorem wait_copy {hsrc : M.view.WordExact} {hdst : N.view.WordExact} {X : s.Idx → Elt F e} :
    (iprop(Lent (thr d i) M N sm X ∗ Going (F := F) d i O W) : sProp 𝕄)
      ⊢ iprop((iprop(owns (thr d i) N fullShare X ∗ owns (thr d i) M fullShare X ∗ Idle (F := F) d i sm ∗ Going (F := F) d i O W)
            -∗ wp frame (wpE (defs₀ (F := F)) 𝒱₀ (thr d i) none) Set.univ (k ⟨⟩) Q)
        -∗ wp frame (wpE (defs₀ (F := F)) 𝒱₀ (thr d i) none) Set.univ (.op (.waitDma2 sm M N hsrc hdst) k) Q) := by
  unfold Going Idle
  iintro ⟨Hl, Hd, #Hm⟩ Hk
  iapply (step_wait (thr d i) 𝒱₀ none) $$ [Hl Hd]
  · isplitl [Hl]; · iexact Hl
    isplitl [Hd]; · iexact Hd
    iexact Hm
  iintro ⟨Hb, Hs, Hv, Hd⟩
  iapply Hk
  isplitl [Hb]; · iexact Hb
  isplitl [Hs]; · iexact Hs
  isplitl [Hv]; · iexact Hv
  isplitl [Hd] <;> iassumption

end Whole

/-- A whole buffer read from its part of a row is loaded, -/
theorem loaded_of (C : Chunk n) {lo : ℕ} (hlo : C.lo.toNat = lo) :
    (owns (thr d i) buf fullShare (rowPart R lo n) : sProp 𝕄) ⊢ Loaded d i C buf R := by
  unfold Loaded
  iintro H
  iexists _; isplitr
  rotate_left
  · iexact H
  · ipureintro; intro x _; rw [hlo]; rfl

/-- and one penalised whole reads its part of the result's row. -/
theorem of_finished (C : Chunk n) {lo : ℕ} (hsz : C.sz = n) (hlo : C.lo.toNat = lo) :
    (Finished d i C buf I R : sProp 𝕄) ⊢ owns (thr d i) buf fullShare (rowPart (outRow I R) lo n) := by
  unfold Finished
  iintro ⟨%w, %hw, H⟩
  have hX : w = rowPart (outRow I R) lo n := by
    funext x
    have hx : (x 0).val < n := (x 0).isLt
    rw [hw x (by rw [hsz]; exact hx), hlo]
    rfl
  subst hX
  iexact H

end Cert.Proof.Penalty
-- ==== Proof.Body.lean ====
/-
  The tile's body, part by part: two rows of scores, each in five chunks, every chunk copied in, penalised at the row's ids
  and copied out while the others are in flight.
-/
module

public import proofs.«01_k».proof.Proof.Copies

@[expose] public section

noncomputable section

namespace Cert.Proof.Penalty

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The chunks of a row -/

/-- A chunk of 25600 places, its buffer's length. -/
def chunkAt (lo : BitVec 32) : Chunk 25600 where
  lo := lo
  sz := 25600
  mask := inChunk 25600#32
  dec := k0_chk1.dec
  keeps := keeps_inChunk lo 25600#32 (by decide)
  pos := by decide
  le := le_rfl

/-- The last of them, shorter. -/
def chunkLast : Chunk 25600 where
  lo := 76800#32
  sz := 23168
  mask := inChunk 23168#32
  dec := k0_chk1.dec
  keeps := keeps_inChunk 76800#32 23168#32 (by decide)
  pos := by decide
  le := by decide

/-- The row's last 32 places. -/
def chunkTail : Chunk 32 where
  lo := 99968#32
  sz := 32
  mask := inTail
  dec := k0_chk2.dec
  keeps := keeps_inTail
  pos := by decide
  le := le_rfl

/-! ## Rows and chunks of the operands -/

/-- The tile's first and second row of a 64 × 100000 array, -/
abbrev row0 (i : grid0.Coords) (A : Memref sig .scVector .hbm S64x100000 .f32) : Memref sig .scVector .hbm S100000 .f32 :=
  (A.slice (Rect.unit (s := S64x100000) (k0_off1 i 0#32) S1x100000.size (k0_off1_inb i 0)) (fun _ => rfl)).squeeze S100000 squeezes_S1x100000_S100000
@[inherit_doc row0] abbrev row1 (i : grid0.Coords) (A : Memref sig .scVector .hbm S64x100000 .f32) : Memref sig .scVector .hbm S100000 .f32 :=
  (A.slice (Rect.unit (s := S64x100000) (k0_off1 i 1#32) S1x100000.size (k0_off1_inb i 1)) (fun _ => rfl)).squeeze S100000 squeezes_S1x100000_S100000

/-- and its two rows of ids. -/
abbrev ids0 (i : grid0.Coords) (A : Memref sig .scVector .hbm S64x2048 .i32) : Memref sig .scVector .hbm S2048 .i32 :=
  (A.slice (Rect.unit (s := S64x2048) (k0_off2 i 0#32) S1x2048.size (k0_off2_inb i 0)) (fun _ => rfl)).squeeze S2048 squeezes_S1x2048_S2048
@[inherit_doc ids0] abbrev ids1 (i : grid0.Coords) (A : Memref sig .scVector .hbm S64x2048 .i32) : Memref sig .scVector .hbm S2048 .i32 :=
  (A.slice (Rect.unit (s := S64x2048) (k0_off2 i 1#32) S1x2048.size (k0_off2_inb i 1)) (fun _ => rfl)).squeeze S2048 squeezes_S1x2048_S2048

/-- The five chunks of a row. -/
abbrev cut0 (A : Memref sig .scVector .hbm S100000 .f32) : Memref sig .scVector .hbm S25600 .f32 :=
  A.slice (Rect.unit (s := S100000) ![0] S25600.size inb_S100000_S25600_0) (fun _ => rfl)
@[inherit_doc cut0] abbrev cut1 (A : Memref sig .scVector .hbm S100000 .f32) : Memref sig .scVector .hbm S25600 .f32 :=
  A.slice (Rect.unit (s := S100000) ![25600] S25600.size inb_S100000_S25600_25600) (fun _ => rfl)
@[inherit_doc cut0] abbrev cut2 (A : Memref sig .scVector .hbm S100000 .f32) : Memref sig .scVector .hbm S25600 .f32 :=
  A.slice (Rect.unit (s := S100000) ![51200] S25600.size inb_S100000_S25600_51200) (fun _ => rfl)
@[inherit_doc cut0] abbrev cut3 (A : Memref sig .scVector .hbm S100000 .f32) : Memref sig .scVector .hbm S23168 .f32 :=
  A.slice (Rect.unit (s := S100000) ![76800] S23168.size inb_S100000_S23168_76800) (fun _ => rfl)
@[inherit_doc cut0] abbrev cut4 (A : Memref sig .scVector .hbm S100000 .f32) : Memref sig .scVector .hbm S32 .f32 :=
  A.slice (Rect.unit (s := S100000) ![99968] S32.size inb_S100000_S32_99968) (fun _ => rfl)

section Tile

variable (d : Fin nD) (i : grid0.Coords) {O : CellTallies nD τ sig (HIx 1)} {W : Waits sig (HIx 1)}
variable {R R₁ : ℕ → F .f32} {I I₁ : S2048.Idx → BitVec 32}

/-- A chunk of a row reading its part of `R`. -/
abbrev Has {sz : ℕ} (M : Memref sig .scVector .hbm (Line sz) .f32) (R : ℕ → F .f32) (lo : ℕ) : sProp 𝕄 :=
  owns (thr d i) M fullShare (rowPart R lo sz)

variable (arg2 : Memref sig .scVector .hbm S64x2048 .i32) (harg2 : arg2.IsWhole) (arg3 : Memref sig .scVector .hbm S64x100000 .f32) (harg3 : arg3.IsWhole)
  (arg4 : Memref sig .scVector .hbm S64x100000 .f32) (harg4 : arg4.IsWhole) (arg5 : Memref sig .scVector .vmem S25600 .f32) (harg5 : arg5.IsWhole)
  (arg6 : Memref sig .scVector .vmem S25600 .f32) (harg6 : arg6.IsWhole) (arg7 : Memref sig .scVector .vmem S25600 .f32) (harg7 : arg7.IsWhole)
  (arg8 : Memref sig .scVector .vmem S25600 .f32) (harg8 : arg8.IsWhole) (arg9 : Memref sig .scVector .vmem S32 .f32) (harg9 : arg9.IsWhole)
  (arg10 : Memref sig .scVector .vmem S32 .f32) (harg10 : arg10.IsWhole) (arg11 : Memref sig .scVector .vmem S2048 .i32) (harg11 : arg11.IsWhole)
  (arg12 : Memref sig .scVector .vmem S2048 .i32) (harg12 : arg12.IsWhole) (arg13 : Memref sig .scVector .vmem S2048 .f32) (harg13 : arg13.IsWhole)
  (arg14 : Memref sig .scVector .vmem S2048 .i32) (harg14 : arg14.IsWhole) (arg15 : Memref sig .scVector .vmem S2048 .f32) (harg15 : arg15.IsWhole)
  (arg16 arg17 arg18 arg19 arg20 arg21 arg22 arg23 arg24 arg25 arg26 arg27 v326_r0 v326_r1 : DmaSems sig S_)

/-- The first three chunks of row 0 start coming in. -/
theorem part3 :
    (iprop(Has d i (cut0 (row0 i arg3)) R 0 ∗ Has d i (cut1 (row0 i arg3)) R 25600 ∗ Has d i (cut2 (row0 i arg3)) R 51200
        ∗ Held (F := F) d i arg5 ∗ Held (F := F) d i arg6 ∗ Held (F := F) d i arg7
        ∗ Idle (F := F) d i arg16.sem ∗ Idle (F := F) d i arg17.sem ∗ Idle (F := F) d i arg18.sem) : sProp 𝕄)
      ⊢ wp frame (wpE (defs₀ (F := F)) 𝒱₀ (thr d i) none) Set.univ
        (k0_part3 i arg2 harg2 arg3 harg3 arg4 harg4 arg5 harg5 arg6 harg6 arg7 harg7 arg8 harg8 arg9 harg9 arg10 harg10 arg11 harg11 arg12 harg12 arg13 harg13
          arg14 harg14 arg15 harg15 arg16 arg17 arg18 arg19 arg20 arg21 arg22 arg23 arg24 arg25 arg26 arg27 v326_r0 v326_r1)
        (fun _ => iprop(Filling d i (cut0 (row0 i arg3)) arg5 inb_S25600_S25600_0 arg16.sem (rowPart R 0 25600)
          ∗ Filling d i (cut1 (row0 i arg3)) arg6 inb_S25600_S25600_0 arg17.sem (rowPart R 25600 25600)
          ∗ Filling d i (cut2 (row0 i arg3)) arg7 inb_S25600_S25600_0 arg18.sem (rowPart R 51200 25600))) := by
  rw [k0_part3_eq_skeleton]
  unfold k0_part3_skel
  simp only [Prog.lift, Prog.bind_op, Prog.bind_ret, Prog.pure_eq_ret]
  iintro ⟨S0, S1, S2, B0, B1, B2, M0, M1, M2⟩
  iapply (start_fill d i (by decide)) $$ [S0 B0 M0]; · iframe
  iintro P0
  iapply (start_fill d i (by decide)) $$ [S1 B1 M1]; · iframe
  iintro P1
  iapply (start_fill d i (by decide)) $$ [S2 B2 M2]; · iframe
  iintro P2
  rw [wp_ret]
  imodintro
  iframe

/-- The fourth and both tails start; row 0's ids are copied in, and its tail has arrived. -/
theorem part4 :
    (iprop(Has d i (cut3 (row0 i arg3)) R 76800 ∗ Has d i (cut4 (row0 i arg3)) R 99968 ∗ Has d i (cut4 (row1 i arg3)) R₁ 99968
        ∗ owns (thr d i) (ids0 i arg2) fullShare I
        ∗ Held (F := F) d i arg8 ∗ Held (F := F) d i arg9 ∗ Held (F := F) d i arg10 ∗ Held (F := F) d i arg11
        ∗ Idle (F := F) d i arg19.sem ∗ Idle (F := F) d i arg24.sem ∗ Idle (F := F) d i arg25.sem ∗ Idle (F := F) d i v326_r0.sem
        ∗ Going (F := F) d i O W) : sProp 𝕄)
      ⊢ wp frame (wpE (defs₀ (F := F)) 𝒱₀ (thr d i) none) Set.univ
        (k0_part4 i arg2 harg2 arg3 harg3 arg4 harg4 arg5 harg5 arg6 harg6 arg7 harg7 arg8 harg8 arg9 harg9 arg10 harg10 arg11 harg11 arg12 harg12 arg13 harg13
          arg14 harg14 arg15 harg15 arg16 arg17 arg18 arg19 arg20 arg21 arg22 arg23 arg24 arg25 arg26 arg27 v326_r0 v326_r1)
        (fun _ => iprop(Filling d i (cut3 (row0 i arg3)) arg8 inb_S25600_S23168_0 arg19.sem (rowPart R 76800 23168)
          ∗ Lent (thr d i) (cut4 (row1 i arg3)) arg10 arg25.sem (rowPart R₁ 99968 32)
          ∗ Has d i (cut4 (row0 i arg3)) R 99968 ∗ Loaded d i chunkTail arg9 R ∗ Idle (F := F) d i arg24.sem
          ∗ owns (thr d i) (ids0 i arg2) fullShare I ∗ owns (thr d i) arg11 fullShare I ∗ Idle (F := F) d i v326_r0.sem
          ∗ Going (F := F) d i O W)) := by
  rw [k0_part4_eq_skeleton]
  unfold k0_part4_skel
  simp only [Prog.lift, Prog.bind_op, Prog.bind_ret, Prog.pure_eq_ret]
  iintro ⟨S3, S4, S4', SI, B3, B4, B4', BI, M3, M4, M4', MI, G⟩
  iapply (start_fill d i (by decide)) $$ [S3 B3 M3]; · iframe
  iintro P3
  iapply (start_copy d i (by decide)) $$ [S4 B4 M4]; · iframe
  iintro P4
  iapply (start_copy d i (by decide)) $$ [S4' B4' M4']; · iframe
  iintro P4'
  iapply (start_copy d i (by decide)) $$ [SI BI MI]; · iframe
  iintro PI
  iapply (wait_copy d i) $$ [PI G]; · iframe
  iintro ⟨BI, SI, MI, G⟩
  iapply (wait_copy d i) $$ [P4 G]; · iframe
  iintro ⟨B4, S4, M4, G⟩
  ihave B4 := (loaded_of (lo := 99968) d i chunkTail rfl) $$ B4
  rw [wp_ret]
  imodintro
  iframe

/-- Row 0's first chunk and its tail: penalised, and on their way out. -/
theorem part5 (hI : ∀ t, (I t).toNat < 100000) :
    (iprop(Filling d i (cut0 (row0 i arg3)) arg5 inb_S25600_S25600_0 arg16.sem (rowPart R 0 25600)
        ∗ Loaded d i chunkTail arg9 R ∗ owns (thr d i) arg11 fullShare I
        ∗ Held (F := F) d i arg12 ∗ Held (F := F) d i arg13 ∗ Held (F := F) d i arg14 ∗ Held (F := F) d i arg15
        ∗ Held (F := F) d i (cut4 (row0 i arg4)) ∗ Held (F := F) d i (cut0 (row0 i arg4))
        ∗ Idle (F := F) d i arg20.sem ∗ Idle (F := F) d i arg26.sem
        ∗ Going (F := F) d i O W) : sProp 𝕄)
      ⊢ wp frame (wpE (defs₀ (F := F)) 𝒱₀ (thr d i) none) Set.univ
        (k0_part5 i arg2 harg2 arg3 harg3 arg4 harg4 arg5 harg5 arg6 harg6 arg7 harg7 arg8 harg8 arg9 harg9 arg10 harg10 arg11 harg11 arg12 harg12 arg13 harg13
          arg14 harg14 arg15 harg15 arg16 arg17 arg18 arg19 arg20 arg21 arg22 arg23 arg24 arg25 arg26 arg27 v326_r0 v326_r1)
        (fun _ => iprop(Has d i (cut0 (row0 i arg3)) R 0 ∗ Idle (F := F) d i arg16.sem ∗ owns (thr d i) arg11 fullShare I
          ∗ Held (F := F) d i arg12 ∗ Held (F := F) d i arg13 ∗ Held (F := F) d i arg14 ∗ Held (F := F) d i arg15
          ∗ Lent (thr d i) arg9 (cut4 (row0 i arg4)) arg26.sem (rowPart (outRow I R) 99968 32)
          ∗ Draining d i arg5 (cut0 (row0 i arg4)) inb_S25600_S25600_0 arg20.sem (rowPart (outRow I R) 0 25600)
          ∗ Going (F := F) d i O W)) := by
  rw [k0_part5_eq_skeleton]
  unfold k0_part5_skel
  simp only [Prog.lift, Prog.bind_op, Prog.bind_ret, Prog.pure_eq_ret]
  iintro ⟨P0, B4, BI, L, V, L', V', D4, D0, N0, N4, G⟩
  iapply (wait_fill (lo := 0) (sz := 25600) d i (chunkAt 0#32) rfl rfl) $$ [P0 G]; · iframe
  iintro ⟨S0, B0, M0, G⟩
  iapply (gather_loop₂ d i (by decide) k0_t1_ok arg11 (chunkAt 0#32) ⟨arg12, arg13, arg5⟩ chunkTail ⟨arg14, arg15, arg9⟩
    ⟨k0_off3, k0_off3_inb, k0_off3_eq⟩ ⟨k0_off3, k0_off3_inb, k0_off3_eq⟩ ⟨k0_off4, k0_off4_inb, k0_off4_eq⟩ ⟨k0_off4, k0_off4_inb, k0_off4_eq⟩
    ⟨k0_off5, k0_off5_inb, k0_off5_eq⟩ h_S16 (View.loads_vmem h_S25600) (View.loads_vmem h_S32) (fun _ _ => rfl) hI) $$ [BI B0 L V B4 L' V']; · iframe
  iintro ⟨BI, B0, B4⟩
  iapply (scatter_loop₂ d i (by decide) k0_t2_ok (chunkAt 0#32) ⟨arg12, arg13, arg5⟩ chunkTail ⟨arg14, arg15, arg9⟩
    ⟨k0_off6, k0_off6_inb, k0_off6_eq⟩ ⟨k0_off6, k0_off6_inb, k0_off6_eq⟩ ⟨k0_off7, k0_off7_inb, k0_off7_eq⟩ ⟨k0_off7, k0_off7_inb, k0_off7_eq⟩
    h_S16 (View.stores_vmem_bits_univ h_S25600 rfl) (View.stores_vmem_bits_univ h_S32 rfl) (fun _ _ => rfl) hI (by decide) (by decide)) $$ [B0 B4]; · iframe
  iintro ⟨⟨L, V, B0⟩, L', V', B4⟩
  ihave B4 := (of_finished (lo := 99968) d i chunkTail rfl rfl) $$ B4
  iapply (start_copy d i (by decide)) $$ [B4 D4 N4]; · iframe
  iintro E4
  iapply (start_drain (lo := 0) (sz := 25600) d i (chunkAt 0#32) rfl rfl (by decide)) $$ [B0 D0 N0]; · iframe
  iintro E0
  rw [wp_ret]
  imodintro
  iframe

/-- Row 0's second chunk is penalised and goes out; its third has arrived and is gathered from. -/
theorem part6 (hI : ∀ t, (I t).toNat < 100000) :
    (iprop(Filling d i (cut1 (row0 i arg3)) arg6 inb_S25600_S25600_0 arg17.sem (rowPart R 25600 25600)
        ∗ Filling d i (cut2 (row0 i arg3)) arg7 inb_S25600_S25600_0 arg18.sem (rowPart R 51200 25600)
        ∗ owns (thr d i) arg11 fullShare I ∗ Held (F := F) d i arg12 ∗ Held (F := F) d i arg13
        ∗ Held (F := F) d i (cut1 (row0 i arg4)) ∗ Idle (F := F) d i arg21.sem ∗ Going (F := F) d i O W) : sProp 𝕄)
      ⊢ wp frame (wpE (defs₀ (F := F)) 𝒱₀ (thr d i) none) Set.univ
        (k0_part6 i arg2 harg2 arg3 harg3 arg4 harg4 arg5 harg5 arg6 harg6 arg7 harg7 arg8 harg8 arg9 harg9 arg10 harg10 arg11 harg11 arg12 harg12 arg13 harg13
          arg14 harg14 arg15 harg15 arg16 arg17 arg18 arg19 arg20 arg21 arg22 arg23 arg24 arg25 arg26 arg27 v326_r0 v326_r1)
        (fun _ => iprop(Has d i (cut1 (row0 i arg3)) R 25600 ∗ Idle (F := F) d i arg17.sem
          ∗ Has d i (cut2 (row0 i arg3)) R 51200 ∗ Idle (F := F) d i arg18.sem
          ∗ owns (thr d i) arg11 fullShare I ∗ Staged d i (chunkAt 51200#32) ⟨arg12, arg13, arg7⟩ I R
          ∗ Draining d i arg6 (cut1 (row0 i arg4)) inb_S25600_S25600_0 arg21.sem (rowPart (outRow I R) 25600 25600)
          ∗ Going (F := F) d i O W)) := by
  rw [k0_part6_eq_skeleton]
  unfold k0_part6_skel
  simp only [Prog.lift, Prog.bind_op, Prog.bind_ret, Prog.pure_eq_ret]
  iintro ⟨P1, P2, BI, L, V, D1, N1, G⟩
  iapply (wait_fill (lo := 25600) (sz := 25600) d i (chunkAt 25600#32) rfl rfl) $$ [P1 G]; · iframe
  iintro ⟨S1, B1, M1, G⟩
  iapply (gather_loop d i (by decide) k0_t3_ok arg11 (chunkAt 25600#32) ⟨arg12, arg13, arg6⟩ ⟨k0_off8, k0_off8_inb, k0_off8_eq⟩
    ⟨k0_off8, k0_off8_inb, k0_off8_eq⟩ ⟨k0_off9, k0_off9_inb, k0_off9_eq⟩ h_S16 (View.loads_vmem h_S25600) (fun _ _ => rfl) hI) $$ [BI B1 L V]; · iframe
  iintro ⟨BI, B1⟩
  iapply (scatter_loop d i (by decide) k0_t4_ok (chunkAt 25600#32) ⟨arg12, arg13, arg6⟩ ⟨k0_off10, k0_off10_inb, k0_off10_eq⟩
    ⟨k0_off10, k0_off10_inb, k0_off10_eq⟩ h_S16 (View.stores_vmem_bits_univ h_S25600 rfl) (fun _ _ => rfl) hI (by decide)) $$ B1
  iintro ⟨L, V, B1⟩
  iapply (start_drain (lo := 25600) (sz := 25600) d i (chunkAt 25600#32) rfl rfl (by decide)) $$ [B1 D1 N1]; · iframe
  iintro E1
  iapply (wait_fill (lo := 51200) (sz := 25600) d i (chunkAt 51200#32) rfl rfl) $$ [P2 G]; · iframe
  iintro ⟨S2, B2, M2, G⟩
  iapply (gather_loop d i (by decide) k0_t5_ok arg11 (chunkAt 51200#32) ⟨arg12, arg13, arg7⟩ ⟨k0_off11, k0_off11_inb, k0_off11_eq⟩
    ⟨k0_off11, k0_off11_inb, k0_off11_eq⟩ ⟨k0_off12, k0_off12_inb, k0_off12_eq⟩ h_S16 (View.loads_vmem h_S25600) (fun _ _ => rfl) hI) $$ [BI B2 L V]; · iframe
  iintro ⟨BI, B2⟩
  rw [wp_ret]
  imodintro
  iframe

/-- Row 0's third chunk is scattered into and goes out; its first has left, and row 1's first starts. -/
theorem part7 (c₀ c₁ : BitVec 32) (hI : ∀ t, (I t).toNat < 100000) :
    (iprop(Staged d i (chunkAt 51200#32) ⟨arg12, arg13, arg7⟩ I R ∗ Held (F := F) d i (cut2 (row0 i arg4)) ∗ Idle (F := F) d i arg22.sem
        ∗ Draining d i arg5 (cut0 (row0 i arg4)) inb_S25600_S25600_0 arg20.sem (rowPart (outRow I R) 0 25600)
        ∗ Has d i (cut0 (row1 i arg3)) R₁ 0 ∗ Idle (F := F) d i arg16.sem ∗ Going (F := F) d i O W) : sProp 𝕄)
      ⊢ wp frame (wpE (defs₀ (F := F)) 𝒱₀ (thr d i) none) Set.univ
        (k0_part7 i arg2 harg2 arg3 harg3 arg4 harg4 arg5 harg5 arg6 harg6 arg7 harg7 arg8 harg8 arg9 harg9 arg10 harg10 arg11 harg11 arg12 harg12 arg13 harg13
          arg14 harg14 arg15 harg15 arg16 arg17 arg18 arg19 arg20 arg21 arg22 arg23 arg24 arg25 arg26 arg27 v326_r0 v326_r1 c₀ c₁)
        (fun _ => iprop(Held (F := F) d i arg12 ∗ Held (F := F) d i arg13
          ∗ Draining d i arg7 (cut2 (row0 i arg4)) inb_S25600_S25600_0 arg22.sem (rowPart (outRow I R) 51200 25600)
          ∗ Has d i (cut0 (row0 i arg4)) (outRow I R) 0 ∗ Idle (F := F) d i arg20.sem
          ∗ Filling d i (cut0 (row1 i arg3)) arg5 inb_S25600_S25600_0 arg16.sem (rowPart R₁ 0 25600)
          ∗ Going (F := F) d i O W)) := by
  rw [k0_part7_eq_skeleton]
  unfold k0_part7_skel
  simp only [Prog.lift, Prog.bind_op, Prog.bind_ret, Prog.pure_eq_ret]
  iintro ⟨B2, D2, N2, E0, S0, M0, G⟩
  iapply (scatter_loop d i (by decide) k0_t6_ok (chunkAt 51200#32) ⟨arg12, arg13, arg7⟩ ⟨k0_off13, k0_off13_inb, k0_off13_eq⟩
    ⟨k0_off13, k0_off13_inb, k0_off13_eq⟩ h_S16 (View.stores_vmem_bits_univ h_S25600 rfl) (fun _ _ => rfl) hI (by decide)) $$ B2
  iintro ⟨L, V, B2⟩
  iapply (start_drain (lo := 51200) (sz := 25600) d i (chunkAt 51200#32) rfl rfl (by decide)) $$ [B2 D2 N2]; · iframe
  iintro E2
  iapply (wait_drain d i) $$ [E0 G]; · iframe
  iintro ⟨D0, B0, N0, G⟩
  iapply (start_fill d i (by decide)) $$ [S0 B0 M0]; · iframe
  iintro P0
  rw [wp_ret]
  imodintro
  iframe

/-- Row 0's fourth chunk is penalised and goes out; its second has left, and row 1's second starts. -/
theorem part8 (hI : ∀ t, (I t).toNat < 100000) :
    (iprop(Filling d i (cut3 (row0 i arg3)) arg8 inb_S25600_S23168_0 arg19.sem (rowPart R 76800 23168)
        ∗ owns (thr d i) arg11 fullShare I ∗ Held (F := F) d i arg12 ∗ Held (F := F) d i arg13
        ∗ Held (F := F) d i (cut3 (row0 i arg4)) ∗ Idle (F := F) d i arg23.sem
        ∗ Draining d i arg6 (cut1 (row0 i arg4)) inb_S25600_S25600_0 arg21.sem (rowPart (outRow I R) 25600 25600)
        ∗ Has d i (cut1 (row1 i arg3)) R₁ 25600 ∗ Idle (F := F) d i arg17.sem ∗ Going (F := F) d i O W) : sProp 𝕄)
      ⊢ wp frame (wpE (defs₀ (F := F)) 𝒱₀ (thr d i) none) Set.univ
        (k0_part8 i arg2 harg2 arg3 harg3 arg4 harg4 arg5 harg5 arg6 harg6 arg7 harg7 arg8 harg8 arg9 harg9 arg10 harg10 arg11 harg11 arg12 harg12 arg13 harg13
          arg14 harg14 arg15 harg15 arg16 arg17 arg18 arg19 arg20 arg21 arg22 arg23 arg24 arg25 arg26 arg27 v326_r0 v326_r1)
        (fun _ => iprop(Has d i (cut3 (row0 i arg3)) R 76800 ∗ Idle (F := F) d i arg19.sem
          ∗ owns (thr d i) arg11 fullShare I ∗ Held (F := F) d i arg12 ∗ Held (F := F) d i arg13
          ∗ Draining d i arg8 (cut3 (row0 i arg4)) inb_S25600_S23168_0 arg23.sem (rowPart (outRow I R) 76800 23168)
          ∗ Has d i (cut1 (row0 i arg4)) (outRow I R) 25600 ∗ Idle (F := F) d i arg21.sem
          ∗ Filling d i (cut1 (row1 i arg3)) arg6 inb_S25600_S25600_0 arg17.sem (rowPart R₁ 25600 25600)
          ∗ Going (F := F) d i O W)) := by
  rw [k0_part8_eq_skeleton]
  unfold k0_part8_skel
  simp only [Prog.lift, Prog.bind_op, Prog.bind_ret, Prog.pure_eq_ret]
  iintro ⟨P3, BI, L, V, D3, N3, E1, S1, M1, G⟩
  iapply (wait_fill (lo := 76800) (sz := 23168) d i chunkLast rfl rfl) $$ [P3 G]; · iframe
  iintro ⟨S3, B3, M3, G⟩
  iapply (gather_loop d i (by decide) k0_t7_ok arg11 chunkLast ⟨arg12, arg13, arg8⟩ ⟨k0_off14, k0_off14_inb, k0_off14_eq⟩
    ⟨k0_off14, k0_off14_inb, k0_off14_eq⟩ ⟨k0_off15, k0_off15_inb, k0_off15_eq⟩ h_S16 (View.loads_vmem h_S25600) (fun _ _ => rfl) hI) $$ [BI B3 L V]; · iframe
  iintro ⟨BI, B3⟩
  iapply (scatter_loop d i (by decide) k0_t8_ok chunkLast ⟨arg12, arg13, arg8⟩ ⟨k0_off16, k0_off16_inb, k0_off16_eq⟩
    ⟨k0_off16, k0_off16_inb, k0_off16_eq⟩ h_S16 (View.stores_vmem_bits_univ h_S25600 rfl) (fun _ _ => rfl) hI (by decide)) $$ B3
  iintro ⟨L, V, B3⟩
  iapply (start_drain (lo := 76800) (sz := 23168) d i chunkLast rfl rfl (by decide)) $$ [B3 D3 N3]; · iframe
  iintro E3
  iapply (wait_drain d i) $$ [E1 G]; · iframe
  iintro ⟨D1, B1, N1, G⟩
  iapply (start_fill d i (by decide)) $$ [S1 B1 M1]; · iframe
  iintro P1
  rw [wp_ret]
  imodintro
  iframe

/-- Row 1's ids replace row 0's; its tail and first chunk have arrived and are penalised together. -/
theorem part9 {J : S2048.Idx → BitVec 32} (hI : ∀ t, (I t).toNat < 100000) :
    (iprop(owns (thr d i) (ids1 i arg2) fullShare I ∗ owns (thr d i) arg11 fullShare J ∗ Idle (F := F) d i v326_r1.sem
        ∗ Lent (thr d i) (cut4 (row1 i arg3)) arg10 arg25.sem (rowPart R 99968 32)
        ∗ Filling d i (cut0 (row1 i arg3)) arg5 inb_S25600_S25600_0 arg16.sem (rowPart R 0 25600)
        ∗ Held (F := F) d i arg12 ∗ Held (F := F) d i arg13 ∗ Held (F := F) d i arg14 ∗ Held (F := F) d i arg15
        ∗ Going (F := F) d i O W) : sProp 𝕄)
      ⊢ wp frame (wpE (defs₀ (F := F)) 𝒱₀ (thr d i) none) Set.univ
        (k0_part9 i arg2 harg2 arg3 harg3 arg4 harg4 arg5 harg5 arg6 harg6 arg7 harg7 arg8 harg8 arg9 harg9 arg10 harg10 arg11 harg11 arg12 harg12 arg13 harg13
          arg14 harg14 arg15 harg15 arg16 arg17 arg18 arg19 arg20 arg21 arg22 arg23 arg24 arg25 arg26 arg27 v326_r0 v326_r1)
        (fun _ => iprop(owns (thr d i) (ids1 i arg2) fullShare I ∗ owns (thr d i) arg11 fullShare I ∗ Idle (F := F) d i v326_r1.sem
          ∗ Has d i (cut4 (row1 i arg3)) R 99968 ∗ Idle (F := F) d i arg25.sem
          ∗ Has d i (cut0 (row1 i arg3)) R 0 ∗ Idle (F := F) d i arg16.sem
          ∗ Held (F := F) d i arg12 ∗ Held (F := F) d i arg13 ∗ Finished d i (chunkAt 0#32) arg5 I R
          ∗ Held (F := F) d i arg14 ∗ Held (F := F) d i arg15 ∗ owns (thr d i) arg10 fullShare (rowPart (outRow I R) 99968 32)
          ∗ Going (F := F) d i O W)) := by
  rw [k0_part9_eq_skeleton]
  unfold k0_part9_skel
  simp only [Prog.lift, Prog.bind_op, Prog.bind_ret, Prog.pure_eq_ret]
  iintro ⟨SI, BI, MI, P4, P0, L, V, L', V', G⟩
  ihave BI := (held_intro d i) $$ BI
  iapply (start_copy d i (by decide)) $$ [SI BI MI]; · iframe
  iintro PI
  iapply (wait_copy d i) $$ [PI G]; · iframe
  iintro ⟨BI, SI, MI, G⟩
  iapply (wait_copy d i) $$ [P4 G]; · iframe
  iintro ⟨B4, S4, M4, G⟩
  ihave B4 := (loaded_of (lo := 99968) d i chunkTail rfl) $$ B4
  iapply (wait_fill (lo := 0) (sz := 25600) d i (chunkAt 0#32) rfl rfl) $$ [P0 G]; · iframe
  iintro ⟨S0, B0, M0, G⟩
  iapply (gather_loop₂ d i (by decide) k0_t9_ok arg11 (chunkAt 0#32) ⟨arg12, arg13, arg5⟩ chunkTail ⟨arg14, arg15, arg10⟩
    ⟨k0_off17, k0_off17_inb, k0_off17_eq⟩ ⟨k0_off17, k0_off17_inb, k0_off17_eq⟩ ⟨k0_off18, k0_off18_inb, k0_off18_eq⟩ ⟨k0_off18, k0_off18_inb, k0_off18_eq⟩
    ⟨k0_off19, k0_off19_inb, k0_off19_eq⟩ h_S16 (View.loads_vmem h_S25600) (View.loads_vmem h_S32) (fun _ _ => rfl) hI) $$ [BI B0 L V B4 L' V']; · iframe
  iintro ⟨BI, B0, B4⟩
  iapply (scatter_loop₂ d i (by decide) k0_t10_ok (chunkAt 0#32) ⟨arg12, arg13, arg5⟩ chunkTail ⟨arg14, arg15, arg10⟩
    ⟨k0_off20, k0_off20_inb, k0_off20_eq⟩ ⟨k0_off20, k0_off20_inb, k0_off20_eq⟩ ⟨k0_off21, k0_off21_inb, k0_off21_eq⟩ ⟨k0_off21, k0_off21_inb, k0_off21_eq⟩
    h_S16 (View.stores_vmem_bits_univ h_S25600 rfl) (View.stores_vmem_bits_univ h_S32 rfl) (fun _ _ => rfl) hI (by decide) (by decide)) $$ [B0 B4]; · iframe
  iintro ⟨⟨L, V, B0⟩, L', V', B4⟩
  ihave B4 := (of_finished (lo := 99968) d i chunkTail rfl rfl) $$ B4
  rw [wp_ret]
  imodintro
  iframe

/-- Row 1's tail and first chunk go out; row 0's third has left, and row 1's third starts. -/
theorem part10 {X : S25600.Idx → F .f32} :
    (iprop(owns (thr d i) arg10 fullShare (rowPart (outRow I R) 99968 32) ∗ Held (F := F) d i (cut4 (row1 i arg4)) ∗ Idle (F := F) d i arg27.sem
        ∗ Finished d i (chunkAt 0#32) arg5 I R ∗ Held (F := F) d i (cut0 (row1 i arg4)) ∗ Idle (F := F) d i arg20.sem
        ∗ Draining d i arg7 (cut2 (row0 i arg4)) inb_S25600_S25600_0 arg22.sem X
        ∗ Has d i (cut2 (row1 i arg3)) R 51200 ∗ Idle (F := F) d i arg18.sem ∗ Going (F := F) d i O W) : sProp 𝕄)
      ⊢ wp frame (wpE (defs₀ (F := F)) 𝒱₀ (thr d i) none) Set.univ
        (k0_part10 i arg2 harg2 arg3 harg3 arg4 harg4 arg5 harg5 arg6 harg6 arg7 harg7 arg8 harg8 arg9 harg9 arg10 harg10 arg11 harg11 arg12 harg12 arg13 harg13
          arg14 harg14 arg15 harg15 arg16 arg17 arg18 arg19 arg20 arg21 arg22 arg23 arg24 arg25 arg26 arg27 v326_r0 v326_r1)
        (fun _ => iprop(Lent (thr d i) arg10 (cut4 (row1 i arg4)) arg27.sem (rowPart (outRow I R) 99968 32)
          ∗ Draining d i arg5 (cut0 (row1 i arg4)) inb_S25600_S25600_0 arg20.sem (rowPart (outRow I R) 0 25600)
          ∗ owns (thr d i) (cut2 (row0 i arg4)) fullShare X ∗ Idle (F := F) d i arg22.sem
          ∗ Filling d i (cut2 (row1 i arg3)) arg7 inb_S25600_S25600_0 arg18.sem (rowPart R 51200 25600)
          ∗ Going (F := F) d i O W)) := by
  rw [k0_part10_eq_skeleton]
  unfold k0_part10_skel
  simp only [Prog.lift, Prog.bind_op, Prog.bind_ret, Prog.pure_eq_ret]
  iintro ⟨B4, D4, N4, B0, D0, N0, E2, S2, M2, G⟩
  iapply (start_copy d i (by decide)) $$ [B4 D4 N4]; · iframe
  iintro E4
  iapply (start_drain (lo := 0) (sz := 25600) d i (chunkAt 0#32) rfl rfl (by decide)) $$ [B0 D0 N0]; · iframe
  iintro E0
  iapply (wait_drain d i) $$ [E2 G]; · iframe
  iintro ⟨D2, B2, N2, G⟩
  iapply (start_fill d i (by decide)) $$ [S2 B2 M2]; · iframe
  iintro P2
  rw [wp_ret]
  imodintro
  iframe

/-- Row 1's second chunk is penalised and goes out; row 0's fourth has left, and row 1's fourth starts. -/
theorem part11 {X : S23168.Idx → F .f32} (hI : ∀ t, (I t).toNat < 100000) :
    (iprop(Filling d i (cut1 (row1 i arg3)) arg6 inb_S25600_S25600_0 arg17.sem (rowPart R 25600 25600)
        ∗ owns (thr d i) arg11 fullShare I ∗ Held (F := F) d i arg12 ∗ Held (F := F) d i arg13
        ∗ Held (F := F) d i (cut1 (row1 i arg4)) ∗ Idle (F := F) d i arg21.sem
        ∗ Draining d i arg8 (cut3 (row0 i arg4)) inb_S25600_S23168_0 arg23.sem X
        ∗ Has d i (cut3 (row1 i arg3)) R 76800 ∗ Idle (F := F) d i arg19.sem ∗ Going (F := F) d i O W) : sProp 𝕄)
      ⊢ wp frame (wpE (defs₀ (F := F)) 𝒱₀ (thr d i) none) Set.univ
        (k0_part11 i arg2 harg2 arg3 harg3 arg4 harg4 arg5 harg5 arg6 harg6 arg7 harg7 arg8 harg8 arg9 harg9 arg10 harg10 arg11 harg11 arg12 harg12 arg13 harg13
          arg14 harg14 arg15 harg15 arg16 arg17 arg18 arg19 arg20 arg21 arg22 arg23 arg24 arg25 arg26 arg27 v326_r0 v326_r1)
        (fun _ => iprop(Has d i (cut1 (row1 i arg3)) R 25600 ∗ Idle (F := F) d i arg17.sem
          ∗ owns (thr d i) arg11 fullShare I ∗ Held (F := F) d i arg12 ∗ Held (F := F) d i arg13
          ∗ Draining d i arg6 (cut1 (row1 i arg4)) inb_S25600_S25600_0 arg21.sem (rowPart (outRow I R) 25600 25600)
          ∗ owns (thr d i) (cut3 (row0 i arg4)) fullShare X ∗ Idle (F := F) d i arg23.sem
          ∗ Filling d i (cut3 (row1 i arg3)) arg8 inb_S25600_S23168_0 arg19.sem (rowPart R 76800 23168)
          ∗ Going (F := F) d i O W)) := by
  rw [k0_part11_eq_skeleton]
  unfold k0_part11_skel
  simp only [Prog.lift, Prog.bind_op, Prog.bind_ret, Prog.pure_eq_ret]
  iintro ⟨P1, BI, L, V, D1, N1, E3, S3, M3, G⟩
  iapply (wait_fill (lo := 25600) (sz := 25600) d i (chunkAt 25600#32) rfl rfl) $$ [P1 G]; · iframe
  iintro ⟨S1, B1, M1, G⟩
  iapply (gather_loop d i (by decide) k0_t11_ok arg11 (chunkAt 25600#32) ⟨arg12, arg13, arg6⟩ ⟨k0_off22, k0_off22_inb, k0_off22_eq⟩
    ⟨k0_off22, k0_off22_inb, k0_off22_eq⟩ ⟨k0_off23, k0_off23_inb, k0_off23_eq⟩ h_S16 (View.loads_vmem h_S25600) (fun _ _ => rfl) hI) $$ [BI B1 L V]; · iframe
  iintro ⟨BI, B1⟩
  iapply (scatter_loop d i (by decide) k0_t12_ok (chunkAt 25600#32) ⟨arg12, arg13, arg6⟩ ⟨k0_off24, k0_off24_inb, k0_off24_eq⟩
    ⟨k0_off24, k0_off24_inb, k0_off24_eq⟩ h_S16 (View.stores_vmem_bits_univ h_S25600 rfl) (fun _ _ => rfl) hI (by decide)) $$ B1
  iintro ⟨L, V, B1⟩
  iapply (start_drain (lo := 25600) (sz := 25600) d i (chunkAt 25600#32) rfl rfl (by decide)) $$ [B1 D1 N1]; · iframe
  iintro E1
  iapply (wait_drain d i) $$ [E3 G]; · iframe
  iintro ⟨D3, B3, N3, G⟩
  iapply (start_fill d i (by decide)) $$ [S3 B3 M3]; · iframe
  iintro P3
  rw [wp_ret]
  imodintro
  iframe

/-- Row 1's third chunk is penalised and goes out; its fourth has arrived. -/
theorem part12 (hI : ∀ t, (I t).toNat < 100000) :
    (iprop(Filling d i (cut2 (row1 i arg3)) arg7 inb_S25600_S25600_0 arg18.sem (rowPart R 51200 25600)
        ∗ Filling d i (cut3 (row1 i arg3)) arg8 inb_S25600_S23168_0 arg19.sem (rowPart R 76800 23168)
        ∗ owns (thr d i) arg11 fullShare I ∗ Held (F := F) d i arg12 ∗ Held (F := F) d i arg13
        ∗ Held (F := F) d i (cut2 (row1 i arg4)) ∗ Idle (F := F) d i arg22.sem ∗ Going (F := F) d i O W) : sProp 𝕄)
      ⊢ wp frame (wpE (defs₀ (F := F)) 𝒱₀ (thr d i) none) Set.univ
        (k0_part12 i arg2 harg2 arg3 harg3 arg4 harg4 arg5 harg5 arg6 harg6 arg7 harg7 arg8 harg8 arg9 harg9 arg10 harg10 arg11 harg11 arg12 harg12 arg13 harg13
          arg14 harg14 arg15 harg15 arg16 arg17 arg18 arg19 arg20 arg21 arg22 arg23 arg24 arg25 arg26 arg27 v326_r0 v326_r1)
        (fun _ => iprop(Has d i (cut2 (row1 i arg3)) R 51200 ∗ Idle (F := F) d i arg18.sem
          ∗ Has d i (cut3 (row1 i arg3)) R 76800 ∗ Idle (F := F) d i arg19.sem ∗ Loaded d i chunkLast arg8 R
          ∗ owns (thr d i) arg11 fullShare I ∗ Held (F := F) d i arg12 ∗ Held (F := F) d i arg13
          ∗ Draining d i arg7 (cut2 (row1 i arg4)) inb_S25600_S25600_0 arg22.sem (rowPart (outRow I R) 51200 25600)
          ∗ Going (F := F) d i O W)) := by
  rw [k0_part12_eq_skeleton]
  unfold k0_part12_skel
  simp only [Prog.lift, Prog.bind_op, Prog.bind_ret, Prog.pure_eq_ret]
  iintro ⟨P2, P3, BI, L, V, D2, N2, G⟩
  iapply (wait_fill (lo := 51200) (sz := 25600) d i (chunkAt 51200#32) rfl rfl) $$ [P2 G]; · iframe
  iintro ⟨S2, B2, M2, G⟩
  iapply (gather_loop d i (by decide) k0_t13_ok arg11 (chunkAt 51200#32) ⟨arg12, arg13, arg7⟩ ⟨k0_off25, k0_off25_inb, k0_off25_eq⟩
    ⟨k0_off25, k0_off25_inb, k0_off25_eq⟩ ⟨k0_off26, k0_off26_inb, k0_off26_eq⟩ h_S16 (View.loads_vmem h_S25600) (fun _ _ => rfl) hI) $$ [BI B2 L V]; · iframe
  iintro ⟨BI, B2⟩
  iapply (scatter_loop d i (by decide) k0_t14_ok (chunkAt 51200#32) ⟨arg12, arg13, arg7⟩ ⟨k0_off27, k0_off27_inb, k0_off27_eq⟩
    ⟨k0_off27, k0_off27_inb, k0_off27_eq⟩ h_S16 (View.stores_vmem_bits_univ h_S25600 rfl) (fun _ _ => rfl) hI (by decide)) $$ B2
  iintro ⟨L, V, B2⟩
  iapply (start_drain (lo := 51200) (sz := 25600) d i (chunkAt 51200#32) rfl rfl (by decide)) $$ [B2 D2 N2]; · iframe
  iintro E2
  iapply (wait_fill (lo := 76800) (sz := 23168) d i chunkLast rfl rfl) $$ [P3 G]; · iframe
  iintro ⟨S3, B3, M3, G⟩
  rw [wp_ret]
  imodintro
  iframe

/-- Row 1's last chunk is penalised and goes out; its first two have left. -/
theorem part13 (c₀ c₁ : BitVec 32) {X Y : S25600.Idx → F .f32} (hI : ∀ t, (I t).toNat < 100000) :
    (iprop(Loaded d i chunkLast arg8 R ∗ owns (thr d i) arg11 fullShare I ∗ Held (F := F) d i arg12 ∗ Held (F := F) d i arg13
        ∗ Held (F := F) d i (cut3 (row1 i arg4)) ∗ Idle (F := F) d i arg23.sem
        ∗ Draining d i arg5 (cut0 (row1 i arg4)) inb_S25600_S25600_0 arg20.sem X
        ∗ Draining d i arg6 (cut1 (row1 i arg4)) inb_S25600_S25600_0 arg21.sem Y ∗ Going (F := F) d i O W) : sProp 𝕄)
      ⊢ wp frame (wpE (defs₀ (F := F)) 𝒱₀ (thr d i) none) Set.univ
        (k0_part13 i arg2 harg2 arg3 harg3 arg4 harg4 arg5 harg5 arg6 harg6 arg7 harg7 arg8 harg8 arg9 harg9 arg10 harg10 arg11 harg11 arg12 harg12 arg13 harg13
          arg14 harg14 arg15 harg15 arg16 arg17 arg18 arg19 arg20 arg21 arg22 arg23 arg24 arg25 arg26 arg27 v326_r0 v326_r1 c₀ c₁)
        (fun _ => iprop(owns (thr d i) arg11 fullShare I ∗ Held (F := F) d i arg12 ∗ Held (F := F) d i arg13
          ∗ Draining d i arg8 (cut3 (row1 i arg4)) inb_S25600_S23168_0 arg23.sem (rowPart (outRow I R) 76800 23168)
          ∗ owns (thr d i) (cut0 (row1 i arg4)) fullShare X ∗ Held (F := F) d i arg5 ∗ Idle (F := F) d i arg20.sem
          ∗ owns (thr d i) (cut1 (row1 i arg4)) fullShare Y ∗ Held (F := F) d i arg6 ∗ Idle (F := F) d i arg21.sem
          ∗ Going (F := F) d i O W)) := by
  rw [k0_part13_eq_skeleton]
  unfold k0_part13_skel
  simp only [Prog.lift, Prog.bind_op, Prog.bind_ret, Prog.pure_eq_ret]
  iintro ⟨B3, BI, L, V, D3, N3, E0, E1, G⟩
  iapply (gather_loop d i (by decide) k0_t15_ok arg11 chunkLast ⟨arg12, arg13, arg8⟩ ⟨k0_off28, k0_off28_inb, k0_off28_eq⟩
    ⟨k0_off28, k0_off28_inb, k0_off28_eq⟩ ⟨k0_off29, k0_off29_inb, k0_off29_eq⟩ h_S16 (View.loads_vmem h_S25600) (fun _ _ => rfl) hI) $$ [BI B3 L V]; · iframe
  iintro ⟨BI, B3⟩
  iapply (scatter_loop d i (by decide) k0_t16_ok chunkLast ⟨arg12, arg13, arg8⟩ ⟨k0_off30, k0_off30_inb, k0_off30_eq⟩
    ⟨k0_off30, k0_off30_inb, k0_off30_eq⟩ h_S16 (View.stores_vmem_bits_univ h_S25600 rfl) (fun _ _ => rfl) hI (by decide)) $$ B3
  iintro ⟨L, V, B3⟩
  iapply (start_drain (lo := 76800) (sz := 23168) d i chunkLast rfl rfl (by decide)) $$ [B3 D3 N3]; · iframe
  iintro E3
  iapply (wait_drain d i) $$ [E0 G]; · iframe
  iintro ⟨D0, B0, N0, G⟩
  iapply (wait_drain d i) $$ [E1 G]; · iframe
  iintro ⟨D1, B1, N1, G⟩
  rw [wp_ret]
  imodintro
  iframe

/-! ## The body -/

/-- The five chunks of a row reading their parts of `R`, -/
def HasRow (A : Memref sig .scVector .hbm S100000 .f32) (R : ℕ → F .f32) : sProp 𝕄 :=
  iprop(Has d i (cut0 A) R 0 ∗ Has d i (cut1 A) R 25600 ∗ Has d i (cut2 A) R 51200 ∗ Has d i (cut3 A) R 76800 ∗ Has d i (cut4 A) R 99968)

/-- and held, whatever they read. -/
def HeldRow (A : Memref sig .scVector .hbm S100000 .f32) : sProp 𝕄 :=
  iprop(Held (F := F) d i (cut0 A) ∗ Held (F := F) d i (cut1 A) ∗ Held (F := F) d i (cut2 A) ∗ Held (F := F) d i (cut3 A) ∗ Held (F := F) d i (cut4 A))

/-- The tile's buffers, -/
def Scratch : sProp 𝕄 :=
  iprop(Held (F := F) d i arg5 ∗ Held (F := F) d i arg6 ∗ Held (F := F) d i arg7 ∗ Held (F := F) d i arg8 ∗ Held (F := F) d i arg9 ∗ Held (F := F) d i arg10
    ∗ Held (F := F) d i arg11 ∗ Held (F := F) d i arg12 ∗ Held (F := F) d i arg13 ∗ Held (F := F) d i arg14 ∗ Held (F := F) d i arg15)

/-- and its counters, at rest. -/
def Quiet : sProp 𝕄 :=
  iprop(Idle (F := F) d i arg16.sem ∗ Idle (F := F) d i arg17.sem ∗ Idle (F := F) d i arg18.sem ∗ Idle (F := F) d i arg19.sem ∗ Idle (F := F) d i arg20.sem
    ∗ Idle (F := F) d i arg21.sem ∗ Idle (F := F) d i arg22.sem ∗ Idle (F := F) d i arg23.sem ∗ Idle (F := F) d i arg24.sem ∗ Idle (F := F) d i arg25.sem
    ∗ Idle (F := F) d i arg26.sem ∗ Idle (F := F) d i arg27.sem ∗ Idle (F := F) d i v326_r0.sem ∗ Idle (F := F) d i v326_r1.sem)

/-- **The tile's body** leaves its two rows of the output at the penalised rows, and everything else as it was. -/
theorem tile_body (hI : ∀ t, (I t).toNat < 100000) (hI₁ : ∀ t, (I₁ t).toNat < 100000) :
    (iprop(owns (thr d i) (ids0 i arg2) fullShare I ∗ owns (thr d i) (ids1 i arg2) fullShare I₁
        ∗ HasRow d i (row0 i arg3) R ∗ HasRow d i (row1 i arg3) R₁
        ∗ HeldRow (F := F) d i (row0 i arg4) ∗ HeldRow (F := F) d i (row1 i arg4)
        ∗ Scratch (F := F) d i arg5 arg6 arg7 arg8 arg9 arg10 arg11 arg12 arg13 arg14 arg15
        ∗ Quiet (F := F) d i arg16 arg17 arg18 arg19 arg20 arg21 arg22 arg23 arg24 arg25 arg26 arg27 v326_r0 v326_r1
        ∗ Going (F := F) d i O W) : sProp 𝕄)
      ⊢ wp frame (wpE (defs₀ (F := F)) 𝒱₀ (thr d i) none) Set.univ
        (cc0__body i arg2 harg2 arg3 harg3 arg4 harg4 arg5 harg5 arg6 harg6 arg7 harg7 arg8 harg8 arg9 harg9 arg10 harg10 arg11 harg11 arg12 harg12 arg13 harg13
          arg14 harg14 arg15 harg15 arg16 arg17 arg18 arg19 arg20 arg21 arg22 arg23 arg24 arg25 arg26 arg27 v326_r0 v326_r1)
        (fun _ => iprop(owns (thr d i) (ids0 i arg2) fullShare I ∗ owns (thr d i) (ids1 i arg2) fullShare I₁
          ∗ HasRow d i (row0 i arg3) R ∗ HasRow d i (row1 i arg3) R₁
          ∗ HasRow d i (row0 i arg4) (outRow I R) ∗ HasRow d i (row1 i arg4) (outRow I₁ R₁)
          ∗ Scratch (F := F) d i arg5 arg6 arg7 arg8 arg9 arg10 arg11 arg12 arg13 arg14 arg15
          ∗ Quiet (F := F) d i arg16 arg17 arg18 arg19 arg20 arg21 arg22 arg23 arg24 arg25 arg26 arg27 v326_r0 v326_r1
          ∗ Going (F := F) d i O W)) := by
  unfold HasRow HeldRow Scratch Quiet
  rw [cc0__body_eq_skeleton]
  unfold cc0__body_skel
  iintro ⟨SI, SI', ⟨S0, S1, S2, S3, S4⟩, ⟨S0', S1', S2', S3', S4'⟩, ⟨D0, D1, D2, D3, D4⟩, ⟨D0', D1', D2', D3', D4'⟩,
    ⟨B0, B1, B2, B3, B4, B4', BI, L, V, L', V'⟩, ⟨M0, M1, M2, M3, N0, N1, N2, N3, M4, M4', N4, N4', MI, MI'⟩, G⟩
  iapply (wp_then d i (part3 (R := R) d i arg2 harg2 arg3 harg3 arg4 harg4 arg5 harg5 arg6 harg6 arg7 harg7 arg8 harg8 arg9 harg9 arg10 harg10 arg11 harg11 arg12 harg12 arg13 harg13
    arg14 harg14 arg15 harg15 arg16 arg17 arg18 arg19 arg20 arg21 arg22 arg23 arg24 arg25 arg26 arg27 v326_r0 v326_r1)) $$ [S0 S1 S2 B0 B1 B2 M0 M1 M2]; · iframe
  iintro %_ ⟨P0, P1, P2⟩
  iapply (wp_then d i (part4 (R := R) (R₁ := R₁) (I := I) (O := O) (W := W) d i arg2 harg2 arg3 harg3 arg4 harg4 arg5 harg5 arg6 harg6 arg7 harg7 arg8 harg8 arg9 harg9 arg10 harg10 arg11 harg11 arg12 harg12 arg13 harg13
    arg14 harg14 arg15 harg15 arg16 arg17 arg18 arg19 arg20 arg21 arg22 arg23 arg24 arg25 arg26 arg27 v326_r0 v326_r1)) $$ [S3 S4 S4' SI B3 B4 B4' BI M3 M4 M4' MI G]; · iframe
  iintro %_ ⟨P3, P4', S4, B4, M4, SI, BI, MI, G⟩
  iapply (wp_then d i (part5 (R := R) (I := I) (O := O) (W := W) d i arg2 harg2 arg3 harg3 arg4 harg4 arg5 harg5 arg6 harg6 arg7 harg7 arg8 harg8 arg9 harg9 arg10 harg10 arg11 harg11 arg12 harg12 arg13 harg13
    arg14 harg14 arg15 harg15 arg16 arg17 arg18 arg19 arg20 arg21 arg22 arg23 arg24 arg25 arg26 arg27 v326_r0 v326_r1 hI)) $$ [P0 B4 BI L V L' V' D4 D0 N0 N4 G]; · iframe
  iintro %_ ⟨S0, M0, BI, L, V, L', V', E4, E0, G⟩
  iapply (wp_then d i (part6 (R := R) (I := I) (O := O) (W := W) d i arg2 harg2 arg3 harg3 arg4 harg4 arg5 harg5 arg6 harg6 arg7 harg7 arg8 harg8 arg9 harg9 arg10 harg10 arg11 harg11 arg12 harg12 arg13 harg13
    arg14 harg14 arg15 harg15 arg16 arg17 arg18 arg19 arg20 arg21 arg22 arg23 arg24 arg25 arg26 arg27 v326_r0 v326_r1 hI)) $$ [P1 P2 BI L V D1 N1 G]; · iframe
  iintro %c ⟨S1, M1, S2, M2, BI, B2, E1, G⟩
  iapply (wp_then d i (part7 (R := R) (R₁ := R₁) (I := I) (O := O) (W := W) d i arg2 harg2 arg3 harg3 arg4 harg4 arg5 harg5 arg6 harg6 arg7 harg7 arg8 harg8 arg9 harg9 arg10 harg10 arg11 harg11 arg12 harg12 arg13 harg13
    arg14 harg14 arg15 harg15 arg16 arg17 arg18 arg19 arg20 arg21 arg22 arg23 arg24 arg25 arg26 arg27 v326_r0 v326_r1 c.1 c.2 hI)) $$ [B2 D2 N2 E0 S0' M0 G]; · iframe
  iintro %_ ⟨L, V, E2, D0, N0, P0, G⟩
  iapply (wp_then d i (part8 (R := R) (R₁ := R₁) (I := I) (O := O) (W := W) d i arg2 harg2 arg3 harg3 arg4 harg4 arg5 harg5 arg6 harg6 arg7 harg7 arg8 harg8 arg9 harg9 arg10 harg10 arg11 harg11 arg12 harg12 arg13 harg13
    arg14 harg14 arg15 harg15 arg16 arg17 arg18 arg19 arg20 arg21 arg22 arg23 arg24 arg25 arg26 arg27 v326_r0 v326_r1 hI)) $$ [P3 BI L V D3 N3 E1 S1' M1 G]; · iframe
  iintro %_ ⟨S3, M3, BI, L, V, E3, D1, N1, P1, G⟩
  iapply (wp_then d i (part9 (R := R₁) (I := I₁) (J := I) (O := O) (W := W) d i arg2 harg2 arg3 harg3 arg4 harg4 arg5 harg5 arg6 harg6 arg7 harg7 arg8 harg8 arg9 harg9 arg10 harg10 arg11 harg11 arg12 harg12 arg13 harg13
    arg14 harg14 arg15 harg15 arg16 arg17 arg18 arg19 arg20 arg21 arg22 arg23 arg24 arg25 arg26 arg27 v326_r0 v326_r1 hI₁)) $$ [SI' BI MI' P4' P0 L V L' V' G]; · iframe
  iintro %_ ⟨SI', BI, MI', S4', M4', S0', M0, L, V, B0, L', V', B4', G⟩
  iapply (wp_then d i (part10 (R := R₁) (I := I₁) (X := rowPart (outRow I R) 51200 25600) (O := O) (W := W) d i arg2 harg2 arg3 harg3 arg4 harg4 arg5 harg5 arg6 harg6 arg7 harg7 arg8 harg8 arg9 harg9 arg10 harg10 arg11 harg11 arg12 harg12 arg13 harg13
    arg14 harg14 arg15 harg15 arg16 arg17 arg18 arg19 arg20 arg21 arg22 arg23 arg24 arg25 arg26 arg27 v326_r0 v326_r1)) $$ [B4' D4' N4' B0 D0' N0 E2 S2' M2 G]; · iframe
  iintro %_ ⟨E4', E0, D2, N2, P2, G⟩
  iapply (wp_then d i (part11 (R := R₁) (I := I₁) (X := rowPart (outRow I R) 76800 23168) (O := O) (W := W) d i arg2 harg2 arg3 harg3 arg4 harg4 arg5 harg5 arg6 harg6 arg7 harg7 arg8 harg8 arg9 harg9 arg10 harg10 arg11 harg11 arg12 harg12 arg13 harg13
    arg14 harg14 arg15 harg15 arg16 arg17 arg18 arg19 arg20 arg21 arg22 arg23 arg24 arg25 arg26 arg27 v326_r0 v326_r1 hI₁)) $$ [P1 BI L V D1' N1 E3 S3' M3 G]; · iframe
  iintro %_ ⟨S1', M1, BI, L, V, E1, D3, N3, P3, G⟩
  iapply (wp_then d i (part12 (R := R₁) (I := I₁) (O := O) (W := W) d i arg2 harg2 arg3 harg3 arg4 harg4 arg5 harg5 arg6 harg6 arg7 harg7 arg8 harg8 arg9 harg9 arg10 harg10 arg11 harg11 arg12 harg12 arg13 harg13
    arg14 harg14 arg15 harg15 arg16 arg17 arg18 arg19 arg20 arg21 arg22 arg23 arg24 arg25 arg26 arg27 v326_r0 v326_r1 hI₁)) $$ [P2 P3 BI L V D2' N2 G]; · iframe
  iintro %c ⟨S2', M2, S3', M3, B3, BI, L, V, E2, G⟩
  iapply (wp_then d i (part13 (R := R₁) (I := I₁) (X := rowPart (outRow I₁ R₁) 0 25600) (Y := rowPart (outRow I₁ R₁) 25600 25600) (O := O) (W := W) d i arg2 harg2 arg3 harg3 arg4 harg4 arg5 harg5 arg6 harg6 arg7 harg7 arg8 harg8 arg9 harg9 arg10 harg10 arg11 harg11 arg12 harg12 arg13 harg13
    arg14 harg14 arg15 harg15 arg16 arg17 arg18 arg19 arg20 arg21 arg22 arg23 arg24 arg25 arg26 arg27 v326_r0 v326_r1 c.1 c.2 hI₁))
    $$ [B3 BI L V D3' N3 E0 E1 G]; · iframe
  iintro %_ ⟨BI, L, V, E3, D0', B0, N0, D1', B1, N1, G⟩
  simp only [Prog.lift, Prog.bind_op, Prog.bind_ret, Prog.pure_eq_ret]
  iapply (wait_drain d i) $$ [E2 G]; · iframe
  iintro ⟨D2', B2, N2, G⟩
  iapply (wait_drain d i) $$ [E3 G]; · iframe
  iintro ⟨D3', B3, N3, G⟩
  iapply (wait_copy d i) $$ [E4 G]; · iframe
  iintro ⟨D4, B4, N4, G⟩
  iapply (wait_copy d i) $$ [E4' G]; · iframe
  iintro ⟨D4', B4', N4', G⟩
  ihave BI := (held_intro d i) $$ BI
  ihave B4 := (held_intro d i) $$ B4
  ihave B4' := (held_intro d i) $$ B4'
  rw [wp_ret]
  imodintro
  iframe

end Tile

end Cert.Proof.Penalty
-- ==== Proof.Pieces.lean ====
/-
  The operands cut into the tiles' rows and the rows into chunks: owning an array is owning, tile by tile, the chunks of
  its two rows.
-/
module

public import proofs.«01_k».proof.Proof.Body

@[expose] public section

noncomputable section

namespace Cert.Proof.Penalty

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Places of a 64-row array -/

abbrev Mat (n : ℕ) : Shape := ⟨2, ![64, n]⟩

/-- Place `j` of row `r`. -/
def at2 {n : ℕ} (r : Fin 64) (j : Fin n) : (Mat n).Idx :=
  fun | 0 => r | 1 => j | ⟨_ + 2, h⟩ => absurd h (Nat.not_lt.2 (Nat.le_add_left _ _))

theorem at2_self {n : ℕ} (x : (Mat n).Idx) : at2 (x 0) (x 1) = x := by
  funext a; match a with | 0 => rfl | 1 => rfl

/-- Place `j` of a line. -/
def at1 {n : ℕ} (j : Fin n) : (Line n).Idx := fun | 0 => j | ⟨_ + 1, h⟩ => absurd h (Nat.not_lt.2 (Nat.le_add_left _ _))

/-- The places of row `r` from `lo` up to `hi`. -/
def span (n r lo hi : ℕ) : Finset (Mat n).Idx := Finset.univ.filter fun x => (x 0).val = r ∧ lo ≤ (x 1).val ∧ (x 1).val < hi

theorem mem_span {n r lo hi : ℕ} {x : (Mat n).Idx} : x ∈ span n r lo hi ↔ (x 0).val = r ∧ lo ≤ (x 1).val ∧ (x 1).val < hi := by
  simp [span]

/-- The tile's row `k`, counted in the whole array. -/
def rowNo (i : grid0.Coords) (k : Fin 2) : Fin 64 :=
  ⟨4 * (i 1).val + 2 * (i 0).val + k.val, by
    have h0 : (i 0).val < 2 := (i 0).isLt
    have h1 : (i 1).val < 16 := (i 1).isLt
    omega⟩

/-! ## Where a squeezed row and its chunks lie -/

section Where

variable {e : EltTy} {n : ℕ}

theorem squeeze_inj (h : (⟨1, ![n]⟩ : Shape).numel = (⟨2, ![1, n]⟩ : Shape).numel) (x : (Line n).Idx) (a : Fin 2) :
    (Shape.reshapeEquiv (s' := ⟨1, ![n]⟩) (s := ⟨2, ![1, n]⟩) h x a).val = (![0, (x 0).val] : Fin 2 → ℕ) a := by
  have hx : Shape.reshapeEquiv (s' := ⟨1, ![n]⟩) (s := ⟨2, ![1, n]⟩) h x
      = (fun | 0 => (0 : Fin 1) | 1 => x 0 | ⟨_ + 2, h⟩ => absurd h (Nat.not_lt.2 (Nat.le_add_left _ _)) : (⟨2, ![1, n]⟩ : Shape).Idx) := by
    apply Shape.reshapeEquiv_eq_of_rowMajor
    rw [Shape.rowMajor_val_one, Shape.rowMajor_val_two]
    show 0 * n + (x 0).val = (x 0).val
    omega
  rw [hx]
  match a with | 0 => rfl | 1 => rfl

theorem row_emb (A : Memref sig .scVector .hbm (Mat n) e) (r : Fin 64) {off : Fin 2 → ℕ} (ho : off = ![r.val, 0])
    {inb : ∀ a, off a + (⟨2, ![1, n]⟩ : Shape).size a ≤ (Mat n).size a} {hs} {sq : (⟨2, ![1, n]⟩ : Shape).Squeezes ⟨1, ![n]⟩} (x : (Line n).Idx) :
    ((A.slice (Rect.unit (s := Mat n) off (⟨2, ![1, n]⟩ : Shape).size inb) hs).squeeze ⟨1, ![n]⟩ sq).view.emb x = A.view.emb (at2 r (x 0)) := by
  show A.view.emb ((Rect.unit (s := Mat n) off (⟨2, ![1, n]⟩ : Shape).size inb).emb (Shape.reshapeEquiv sq.numel_eq x)) = _
  congr 1
  funext a
  apply Fin.ext
  rw [Rect.emb_apply, squeeze_inj]
  subst ho
  match a with
  | 0 => show r.val + 1 * 0 = r.val; omega
  | 1 => show 0 + 1 * (x 0).val = (x 0).val; omega

theorem cut_emb (A : Memref sig .scVector .hbm (Line n) e) {lo sz : ℕ} {inb : ∀ a, (![lo] : Fin 1 → ℕ) a + (Line sz).size a ≤ (Line n).size a} {hs}
    (x : (Line sz).Idx) (h : lo + (x 0).val < n) :
    (A.slice (Rect.unit (s := Line n) ![lo] (Line sz).size inb) hs).view.emb x = A.view.emb (fun _ => ⟨lo + (x 0).val, by simpa using h⟩) := by
  show A.view.emb ((Rect.unit (s := Line n) ![lo] (Line sz).size inb).emb x) = _
  congr 1
  funext a
  apply Fin.ext
  rw [Rect.emb_apply]
  match a with | 0 => simp [Rect.unit]

end Where

section Tile

variable (d : Fin nD) (i : grid0.Coords)

/-- Owning a memref at what it reads of a buffer is owning those places of the buffer. -/
theorem owns_as {sp : Space} {s : Shape} {e : EltTy} (M : Memref sig .scVector sp s e) (f : M.view.ty.Contents (Elt F)) {X : s.Idx → Elt F e}
    (hX : ∀ x, M.view.read (Elt F) f x = X x) :
    (owns (thr d i) M fullShare X : sProp 𝕄) = (M.view.loc (thr d i) ↦[M.view.set]{fullShare} f) := by
  obtain rfl : M.view.read (Elt F) f = X := funext hX
  have h : (owns (thr d i) M fullShare (M.view.read (Elt F) f) : sProp 𝕄) ⊢ (M.view.loc (thr d i) ↦[M.view.set]{fullShare} f) := ?_
  · exact BI.equiv_iff.mp ⟨h, owns_intro (thr d i) M fullShare f⟩
  unfold owns
  iintro ⟨%g, %hg, H⟩
  have hfg : ∀ y ∈ M.view.set, g y = f y := by
    intro y hy
    obtain ⟨x, -, rfl⟩ := Finset.mem_map.mp hy
    have := congrFun hg x
    rw [View.read_apply, View.read_apply] at this
    exact (cast_inj _).mp this
  iapply (Entails.of_eq (pointsTo_congr hfg)) $$ H

/-- A tile's row of ids. -/
theorem ids_part {A : Memref sig .scVector .hbm S64x2048 .i32} {r : Fin 64} {off : Fin 2 → ℕ} (ho : off = ![r.val, 0])
    {inb : ∀ a, off a + S1x2048.size a ≤ S64x2048.size a} {hs} {sq : S1x2048.Squeezes S2048}
    {f : A.view.ty.Contents (Elt F)} {I : S2048.Idx → BitVec 32} (hf : ∀ t, A.view.read (Elt F) f (at2 r (t 0)) = I t) :
    (owns (thr d i) ((A.slice (Rect.unit (s := S64x2048) off S1x2048.size inb) hs).squeeze S2048 sq) fullShare I : sProp 𝕄)
      = (A.view.loc (thr d i) ↦[(span 2048 r 0 2048).map A.view.emb]{fullShare} f) := by
  set M := (A.slice (Rect.unit (s := S64x2048) off S1x2048.size inb) hs).squeeze S2048 sq with hM
  have hemb : ∀ x, M.view.emb x = A.view.emb (at2 r (x 0)) := row_emb A r ho
  refine (owns_as d i M f (fun x => ?_)).trans ?_
  · show cast _ (f (M.view.emb x)) = _
    rw [hemb x, ← hf x]; rfl
  · have hset : M.view.set = (span 2048 r 0 2048).map A.view.emb := by
      ext y
      constructor
      · intro hy
        obtain ⟨x, -, rfl⟩ := Finset.mem_map.mp hy
        rw [hemb x]
        exact Finset.mem_map_of_mem _ (mem_span.mpr ⟨rfl, Nat.zero_le _, (x 0).isLt⟩)
      · intro hy
        obtain ⟨z, hz, rfl⟩ := Finset.mem_map.mp hy
        obtain ⟨h0, -, -⟩ := mem_span.mp hz
        refine Finset.mem_map.mpr ⟨at1 (n := 2048) (z 1), Finset.mem_univ _, ?_⟩
        rw [hemb]
        refine congrArg A.view.emb (Eq.trans ?_ (at2_self z))
        exact congrArg (at2 · (z 1)) (Fin.ext h0.symm)
    rw [hset]

/-- A chunk of a tile's row of scores, or of the output. -/
theorem chunk_part {A : Memref sig .scVector .hbm S64x100000 .f32} {r : Fin 64} {off : Fin 2 → ℕ} (ho : off = ![r.val, 0])
    {inb : ∀ a, off a + S1x100000.size a ≤ S64x100000.size a} {hs} {sq : S1x100000.Squeezes S100000} {lo sz : ℕ}
    {inb' : ∀ a, (![lo] : Fin 1 → ℕ) a + (Line sz).size a ≤ S100000.size a} {hs'} (hlo : lo + sz ≤ 100000)
    {f : A.view.ty.Contents (Elt F)} {R : ℕ → F .f32} (hf : ∀ j : Fin 100000, A.view.read (Elt F) f (at2 r j) = R j) :
    Has d i ((((A.slice (Rect.unit (s := S64x100000) off S1x100000.size inb) hs).squeeze S100000 sq).slice
        (Rect.unit (s := S100000) ![lo] (Line sz).size inb') hs')) R lo
      = (A.view.loc (thr d i) ↦[(span 100000 r lo (lo + sz)).map A.view.emb]{fullShare} f) := by
  set N := (A.slice (Rect.unit (s := S64x100000) off S1x100000.size inb) hs).squeeze S100000 sq with hN
  set M := N.slice (Rect.unit (s := S100000) ![lo] (Line sz).size inb') hs' with hM
  have hx : ∀ x : (Line sz).Idx, lo + (x 0).val < 100000 := fun x => by
    have : (x 0).val < sz := (x 0).isLt
    omega
  have hemb : ∀ x, M.view.emb x = A.view.emb (at2 r ⟨lo + (x 0).val, hx x⟩) := fun x =>
    (cut_emb N x (hx x)).trans (row_emb A r ho _)
  refine (owns_as d i M f (fun x => ?_)).trans ?_
  · show cast _ (f (M.view.emb x)) = _
    rw [hemb x]
    exact hf ⟨lo + (x 0).val, hx x⟩
  · have hset : M.view.set = (span 100000 r lo (lo + sz)).map A.view.emb := by
      ext y
      constructor
      · intro hy
        obtain ⟨x, -, rfl⟩ := Finset.mem_map.mp hy
        rw [hemb x]
        have : (x 0).val < sz := (x 0).isLt
        exact Finset.mem_map_of_mem _ (mem_span.mpr ⟨rfl, by show lo ≤ lo + (x 0).val; omega, by show lo + (x 0).val < lo + sz; omega⟩)
      · intro hy
        obtain ⟨z, hz, rfl⟩ := Finset.mem_map.mp hy
        obtain ⟨h0, h1, h2⟩ := mem_span.mp hz
        refine Finset.mem_map.mpr ⟨at1 (n := sz) ⟨(z 1).val - lo, by omega⟩, Finset.mem_univ _, ?_⟩
        rw [hemb]
        refine congrArg A.view.emb (Eq.trans ?_ (at2_self z))
        have e1 : (⟨lo + ((z 1).val - lo), by have : (z 1).val < 100000 := (z 1).isLt; omega⟩ : Fin 100000) = z 1 := Fin.ext (by show lo + ((z 1).val - lo) = (z 1).val; omega)
        have e0 : r = z 0 := Fin.ext h0.symm
        exact (congrArg (at2 r) e1).trans (congrArg (at2 · (z 1)) e0)
    rw [hset]

end Tile

/-! ## An array shared out among the tiles -/

section Share

variable {ℓ : Loc nD τ sig} {n : ℕ} (φ : (Mat n).Idx ↪ Idx ℓ) (f : Buf (Elt F) ℓ)

/-- Part of a row is its two halves. -/
theorem span_split (r : ℕ) {lo mid hi : ℕ} (h : lo ≤ mid) (h' : mid ≤ hi) :
    (ℓ ↦[(span n r lo hi).map φ]{fullShare} f : sProp 𝕄)
      = iprop((ℓ ↦[(span n r lo mid).map φ]{fullShare} f) ∗ ℓ ↦[(span n r mid hi).map φ]{fullShare} f) := by
  classical
  have hu : (span n r lo hi).map φ = (span n r lo mid).map φ ∪ (span n r mid hi).map φ := by
    rw [← Finset.map_union]
    congr 1
    ext x
    rw [Finset.mem_union, mem_span, mem_span, mem_span]
    omega
  have hd : Disjoint ((span n r lo mid).map φ) ((span n r mid hi).map φ) := by
    rw [Finset.disjoint_map, Finset.disjoint_left]
    intro x h₁ h₂
    have := (mem_span.mp h₁).2.2
    have := (mem_span.mp h₂).2.1
    omega
  rw [hu]
  exact BI.equiv_iff.mp ⟨(pointsTo_union hd).1, (pointsTo_union hd).2⟩

/-- A row is its five chunks. -/
theorem span_chunks {φ : (Mat 100000).Idx ↪ Idx ℓ} (r : ℕ) :
    (ℓ ↦[(span 100000 r 0 100000).map φ]{fullShare} f : sProp 𝕄)
      = iprop((ℓ ↦[(span 100000 r 0 25600).map φ]{fullShare} f) ∗ (ℓ ↦[(span 100000 r 25600 51200).map φ]{fullShare} f)
        ∗ (ℓ ↦[(span 100000 r 51200 76800).map φ]{fullShare} f) ∗ (ℓ ↦[(span 100000 r 76800 99968).map φ]{fullShare} f)
        ∗ ℓ ↦[(span 100000 r 99968 100000).map φ]{fullShare} f) := by
  rw [span_split φ f r (lo := 0) (mid := 25600) (by decide) (by decide), span_split φ f r (lo := 25600) (mid := 51200) (by decide) (by decide),
    span_split φ f r (lo := 51200) (mid := 76800) (by decide) (by decide), span_split φ f r (lo := 76800) (mid := 99968) (by decide) (by decide)]

/-- The two rows of the tile (c, s). -/
def pairOf (n : ℕ) (q : Fin 2 × Fin 16) : Finset (Mat n).Idx := span n (4 * q.2.val + 2 * q.1.val) 0 n ∪ span n (4 * q.2.val + 2 * q.1.val + 1) 0 n

theorem pairOf_map (q : Fin 2 × Fin 16) :
    (ℓ ↦[(pairOf n q).map φ]{fullShare} f : sProp 𝕄)
      = iprop((ℓ ↦[(span n (4 * q.2.val + 2 * q.1.val) 0 n).map φ]{fullShare} f) ∗ ℓ ↦[(span n (4 * q.2.val + 2 * q.1.val + 1) 0 n).map φ]{fullShare} f) := by
  classical
  have hd : Disjoint ((span n (4 * q.2.val + 2 * q.1.val) 0 n).map φ) ((span n (4 * q.2.val + 2 * q.1.val + 1) 0 n).map φ) := by
    rw [Finset.disjoint_map, Finset.disjoint_left]
    intro x h₁ h₂
    have := (mem_span.mp h₁).1
    have := (mem_span.mp h₂).1
    omega
  rw [pairOf, Finset.map_union]
  exact BI.equiv_iff.mp ⟨(pointsTo_union hd).1, (pointsTo_union hd).2⟩

/-- The whole array is every tile's two rows. -/
theorem whole_tiles :
    (ℓ ↦[(Finset.univ : Finset (Mat n).Idx).map φ]{fullShare} f : sProp 𝕄)
      = bigSep Finset.univ fun c : Fin 2 => bigSep Finset.univ fun s : Fin 16 =>
          iprop((ℓ ↦[(span n (4 * s.val + 2 * c.val) 0 n).map φ]{fullShare} f) ∗ ℓ ↦[(span n (4 * s.val + 2 * c.val + 1) 0 n).map φ]{fullShare} f) := by
  classical
  have hmem : ∀ {q : Fin 2 × Fin 16} {x : (Mat n).Idx}, x ∈ pairOf n q ↔ (x 0).val / 2 = 2 * q.2.val + q.1.val := by
    intro q x
    have hx : (x 1).val < n := (x 1).isLt
    rw [pairOf, Finset.mem_union, mem_span, mem_span]
    omega
  have hu : (Finset.univ : Finset (Mat n).Idx).map φ = (Finset.univ : Finset (Fin 2 × Fin 16)).biUnion fun q => (pairOf n q).map φ := by
    ext y
    constructor
    · intro hy
      obtain ⟨x, -, rfl⟩ := Finset.mem_map.mp hy
      have hx : (x 0).val < 64 := (x 0).isLt
      refine Finset.mem_biUnion.mpr ⟨(⟨(x 0).val / 2 % 2, by omega⟩, ⟨(x 0).val / 4, by omega⟩), Finset.mem_univ _, Finset.mem_map_of_mem _ (hmem.mpr ?_)⟩
      show (x 0).val / 2 = 2 * ((x 0).val / 4) + (x 0).val / 2 % 2
      omega
    · intro hy
      obtain ⟨q, -, hq⟩ := Finset.mem_biUnion.mp hy
      exact Finset.map_subset_map.mpr (Finset.subset_univ _) hq
  have hd : ∀ q ∈ (Finset.univ : Finset (Fin 2 × Fin 16)), ∀ q' ∈ (Finset.univ : Finset (Fin 2 × Fin 16)), q ≠ q' →
      Disjoint ((pairOf n q).map φ) ((pairOf n q').map φ) := by
    intro q _ q' _ hne
    rw [Finset.disjoint_map, Finset.disjoint_left]
    intro x h₁ h₂
    have e₁ := hmem.mp h₁
    have e₂ := hmem.mp h₂
    have := q.1.isLt
    have := q'.1.isLt
    exact hne (Prod.ext (Fin.ext (by omega)) (Fin.ext (by omega)))
  rw [hu, pointsTo_biUnion _ _ hd, BI.bigSep_univ_prod]
  exact bigSep_congr fun c _ => bigSep_congr fun s _ => pairOf_map φ f (c, s)

end Share

/-! ## A tile's rows, as parts of the arrays -/

section Rows

variable (d : Fin nD) (i : grid0.Coords)

theorem both {P P' Q Q' : sProp (MT nD τ sig (HIx 1) (Elt F) ℕ UU ℕ)} (h : P = P') (h' : Q = Q') : iprop(P ∗ Q) = iprop(P' ∗ Q') := by
  rw [h, h']

theorem ids0_part {A : Memref sig .scVector .hbm S64x2048 .i32} {f : A.view.ty.Contents (Elt F)} {I : S2048.Idx → BitVec 32}
    (hf : ∀ t, A.view.read (Elt F) f (at2 (rowNo i 0) (t 0)) = I t) :
    (owns (thr d i) (ids0 i A) fullShare I : sProp 𝕄) = (A.view.loc (thr d i) ↦[(span 2048 (rowNo i 0).val 0 2048).map A.view.emb]{fullShare} f) :=
  ids_part d i (k0_off2_eq i 0) hf

theorem ids1_part {A : Memref sig .scVector .hbm S64x2048 .i32} {f : A.view.ty.Contents (Elt F)} {I : S2048.Idx → BitVec 32}
    (hf : ∀ t, A.view.read (Elt F) f (at2 (rowNo i 1) (t 0)) = I t) :
    (owns (thr d i) (ids1 i A) fullShare I : sProp 𝕄) = (A.view.loc (thr d i) ↦[(span 2048 (rowNo i 1).val 0 2048).map A.view.emb]{fullShare} f) :=
  ids_part d i (k0_off2_eq i 1) hf

theorem row0_part {A : Memref sig .scVector .hbm S64x100000 .f32} {f : A.view.ty.Contents (Elt F)} {R : ℕ → F .f32}
    (hf : ∀ j : Fin 100000, A.view.read (Elt F) f (at2 (rowNo i 0) j) = R j) :
    HasRow d i (row0 i A) R = (A.view.loc (thr d i) ↦[(span 100000 (rowNo i 0).val 0 100000).map A.view.emb]{fullShare} f) := by
  rw [span_chunks]
  exact both (chunk_part d i (lo := 0) (k0_off1_eq i 0) (by decide) hf) (both (chunk_part d i (lo := 25600) (k0_off1_eq i 0) (by decide) hf)
    (both (chunk_part d i (lo := 51200) (k0_off1_eq i 0) (by decide) hf) (both (chunk_part d i (lo := 76800) (k0_off1_eq i 0) (by decide) hf)
      (chunk_part d i (lo := 99968) (k0_off1_eq i 0) (by decide) hf))))

theorem row1_part {A : Memref sig .scVector .hbm S64x100000 .f32} {f : A.view.ty.Contents (Elt F)} {R : ℕ → F .f32}
    (hf : ∀ j : Fin 100000, A.view.read (Elt F) f (at2 (rowNo i 1) j) = R j) :
    HasRow d i (row1 i A) R = (A.view.loc (thr d i) ↦[(span 100000 (rowNo i 1).val 0 100000).map A.view.emb]{fullShare} f) := by
  rw [span_chunks]
  exact both (chunk_part d i (lo := 0) (k0_off1_eq i 1) (by decide) hf) (both (chunk_part d i (lo := 25600) (k0_off1_eq i 1) (by decide) hf)
    (both (chunk_part d i (lo := 51200) (k0_off1_eq i 1) (by decide) hf) (both (chunk_part d i (lo := 76800) (k0_off1_eq i 1) (by decide) hf)
      (chunk_part d i (lo := 99968) (k0_off1_eq i 1) (by decide) hf))))

theorem held_of_has {A : Memref sig .scVector .hbm S100000 .f32} {R : ℕ → F .f32} : HasRow d i A R ⊢ HeldRow (F := F) d i A := by
  unfold HasRow HeldRow
  iintro ⟨H0, H1, H2, H3, H4⟩
  ihave H0 := (held_intro d i) $$ H0
  ihave H1 := (held_intro d i) $$ H1
  ihave H2 := (held_intro d i) $$ H2
  ihave H3 := (held_intro d i) $$ H3
  ihave H4 := (held_intro d i) $$ H4
  iframe

instance Held_storable {sp : Space} {s : Shape} {e : EltTy} (M : Memref sig .scVector sp s e) :
    BI.Storable (upEmb : UEmb _ 𝕄) (Held (F := F) d i M) := by
  unfold Held; infer_instance
instance HasRow_storable (A : Memref sig .scVector .hbm S100000 .f32) (R : ℕ → F .f32) : BI.Storable (upEmb : UEmb _ 𝕄) (HasRow d i A R) := by
  unfold HasRow; infer_instance
instance HeldRow_storable (A : Memref sig .scVector .hbm S100000 .f32) : BI.Storable (upEmb : UEmb _ 𝕄) (HeldRow (F := F) d i A) := by
  unfold HeldRow; infer_instance

end Rows

end Cert.Proof.Penalty
-- ==== Proof.Launch.lean ====
/-
  The launch: what the call hands each tile and what each tile brings back, the tile's task as the launch theorem asks for
  it, and the run of the whole program with the output at the penalised scores.
-/
module

public import proofs.«01_k».proof.Proof.Pieces

@[expose] public section

noncomputable section

namespace Cert.Proof.Penalty

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (ownCells ownRefs ownSems0 ownBufs mem_ownCells)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The three arrays -/

/-- The ids, the scores and the output, as places of device `d`. -/
abbrev idsAt (d : Dev nD) : Loc nD τ sig := (SparseCore.T d).loc main_arg0
@[inherit_doc idsAt] abbrev scoresAt (d : Dev nD) : Loc nD τ sig := (SparseCore.T d).loc main_arg1
@[inherit_doc idsAt] abbrev outAt (d : Dev nD) : Loc nD τ sig := (SparseCore.T d).loc main_v0

/-- The ids and the scores of row `r`, as launched. -/
def idRow (d : Dev nD) (r : Fin 64) : S2048.Idx → BitVec 32 := fun t => m (idsAt d) (at2 (n := 2048) r (t 0))
/-- Row `r` of an array of scores. -/
def rowOf (f : S64x100000.Idx → F .f32) (r : Fin 64) : ℕ → F .f32 := fun j => f (at2 (n := 100000) r ⟨j % 100000, Nat.mod_lt _ (by decide)⟩)
@[inherit_doc idRow] abbrev scoreRow (d : Dev nD) (r : Fin 64) : ℕ → F .f32 := rowOf (m (scoresAt d)) r

/-- The output at the end: each row's scores, penalised where the row's ids point. -/
def outFinal (d : Dev nD) : Buf (Elt F) (outAt d) := fun x => outRow (idRow m d (x 0)) (scoreRow m d (x 0)) (x 1).val

/-- Every id is inside a row. -/
def InRange : Prop := ∀ (d : Dev nD) (r : Fin 64) (t : S2048.Idx), (idRow m d r t).toNat < 100000

abbrev idsV : Memref sig .scVector .hbm S64x2048 .i32 := Memref.whole main_arg0_scv
abbrev scoresV : Memref sig .scVector .hbm S64x100000 .f32 := Memref.whole main_arg1_scv
abbrev outV : Memref sig .scVector .hbm S64x100000 .f32 := Memref.whole main_v0_scv

/-! ## What the handshakes carry -/

/-- What a tile works on, besides its rows of the output: its rows of the ids and of the scores. -/
def Given (d : Dev nD) (i : grid0.Coords) : sProp 𝕄 :=
  iprop(owns (thr d i) (ids0 i idsV) fullShare (idRow m d (rowNo i 0)) ∗ owns (thr d i) (ids1 i idsV) fullShare (idRow m d (rowNo i 1))
    ∗ HasRow d i (row0 i scoresV) (scoreRow m d (rowNo i 0)) ∗ HasRow d i (row1 i scoresV) (scoreRow m d (rowNo i 1)))

/-- What a tile is handed: its rows of the output at anything. -/
def TileIn (d : Dev nD) (i : grid0.Coords) : sProp 𝕄 :=
  iprop(Given m d i ∗ HeldRow (F := F) d i (row0 i outV) ∗ HeldRow (F := F) d i (row1 i outV))

/-- What it brings back: them penalised. -/
def TileOut (d : Dev nD) (i : grid0.Coords) : sProp 𝕄 :=
  iprop(Given m d i ∗ HasRow d i (row0 i outV) (outRow (idRow m d (rowNo i 0)) (scoreRow m d (rowNo i 0)))
    ∗ HasRow d i (row1 i outV) (outRow (idRow m d (rowNo i 1)) (scoreRow m d (rowNo i 1))))

instance Given_storable (d : Dev nD) (i : grid0.Coords) : BI.Storable (upEmb : UEmb _ 𝕄) (Given m d i) := by unfold Given; infer_instance
instance TileIn_storable (d : Dev nD) (i : grid0.Coords) : BI.Storable (upEmb : UEmb _ 𝕄) (TileIn m d i) := by unfold TileIn; infer_instance
instance TileOut_storable (d : Dev nD) (i : grid0.Coords) : BI.Storable (upEmb : UEmb _ 𝕄) (TileOut m d i) := by unfold TileOut; infer_instance

/-- The tile on SparseCore `c`, subcore `s`. -/
def tileCoords (c : Fin (grid0.bound 0)) (s : Fin (grid0.bound 1)) : grid0.Coords :=
  fun | 0 => c | 1 => s | ⟨_ + 2, h⟩ => absurd h (Nat.not_lt.2 (Nat.le_add_left _ _))

/-- A SparseCore takes what its tiles are handed and brings back what they bring back. -/
def CoreIn (d : Dev nD) (c : Fin 2) : sProp 𝕄 := bigSep Finset.univ fun s : Fin 16 => TileIn m d (tileCoords c s)
@[inherit_doc CoreIn] def CoreOut (d : Dev nD) (c : Fin 2) : sProp 𝕄 := bigSep Finset.univ fun s : Fin 16 => TileOut m d (tileCoords c s)

instance CoreIn_storable (d : Dev nD) (c : Fin 2) : BI.Storable (upEmb : UEmb _ 𝕄) (CoreIn m d c) :=
  haveI h (s : Fin 16) : BI.Storable (upEmb : UEmb _ 𝕄) (TileIn m d (tileCoords c s)) := TileIn_storable m d (tileCoords c s)
  BI.Storable.bigSep _ _ _
instance CoreOut_storable (d : Dev nD) (c : Fin 2) : BI.Storable (upEmb : UEmb _ 𝕄) (CoreOut m d c) :=
  haveI h (s : Fin 16) : BI.Storable (upEmb : UEmb _ 𝕄) (TileOut m d (tileCoords c s)) := TileOut_storable m d (tileCoords c s)
  BI.Storable.bigSep _ _ _

def P : (K (F := F)).Pay (nD := nD) (Val := Elt F) (Name := ℕ) (U := UU) where
  st := fun q d c => match q with | 0 => CoreIn m d c
  dn := fun q d c => match q with | 0 => CoreOut m d c
  go := fun q d c s => match q with | 0 => TileIn m d (tileCoords c s)
  td := fun q d c s => match q with | 0 => TileOut m d (tileCoords c s)
  x := fun _ _ => iprop(emp)

instance P_storable : (P (F := F) m).IsStorable where
  st q d c := match q with | 0 => CoreIn_storable m d c
  dn q d c := match q with | 0 => CoreOut_storable m d c
  go q d c s := match q with | 0 => TileIn_storable m d (tileCoords c s)
  td q d c s := match q with | 0 => TileOut_storable m d (tileCoords c s)

/-! ## A tile's own counters and buffers -/

section Own

variable (d : Fin nD) (i : grid0.Coords)

/-- The counters the body names. -/
def counters : Finset (DmaSem sig) :=
  {cc0_scratch11.sem, cc0_scratch12.sem, cc0_scratch13.sem, cc0_scratch14.sem, cc0_scratch15.sem, cc0_scratch16.sem, cc0_scratch17.sem, cc0_scratch18.sem,
    cc0_scratch19.sem, cc0_scratch20.sem, cc0_scratch21.sem, cc0_scratch22.sem, cc0_scoped0.sem, cc0_scoped1.sem}

/-- The buffers it names. -/
def buffers : Finset (Ref sig .scVector) :=
  {cc0_scratch0, cc0_scratch1, cc0_scratch2, cc0_scratch3, cc0_scratch4, cc0_scratch5, cc0_scratch6, cc0_scratch7, cc0_scratch8, cc0_scratch9, cc0_scratch10}

/-- The tile's own counters at rest are the body's, and the others. -/
theorem own_counters :
    (ownSems0 (thr d i) : sProp 𝕄)
      = iprop(Quiet (F := F) d i cc0_scratch11 cc0_scratch12 cc0_scratch13 cc0_scratch14 cc0_scratch15 cc0_scratch16 cc0_scratch17 cc0_scratch18
          cc0_scratch19 cc0_scratch20 cc0_scratch21 cc0_scratch22 cc0_scoped0 cc0_scoped1
        ∗ bigSep (ownCells (thr d i) \ counters.image fun sm => ((thr d i, SemLoc.dma sm) : GSem nD τ sig)) fun g => semVal g 0) := by
  unfold ownSems0
  have hs : (counters.image fun sm => ((thr d i, SemLoc.dma sm) : GSem nD τ sig)) ⊆ ownCells (thr d i) := by
    intro g hg
    obtain ⟨sm, hsm, rfl⟩ := Finset.mem_image.mp hg
    exact mem_ownCells.mpr ⟨rfl, (show ∀ sm ∈ counters, (SemLoc.dma sm : SemLoc sig).isScoped .scVector = true by decide) sm hsm⟩
  have hi : Set.InjOn (fun sm => ((thr d i, SemLoc.dma sm) : GSem nD τ sig)) (counters : Set (DmaSem sig)) :=
    fun a _ b _ e => SemLoc.dma.inj (Prod.mk.inj e).2
  rw [SparseCore.bigSep_sdiff_split' hs, SparseCore.bigSep_image_of_injOn hi]
  unfold counters Quiet Idle
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- A whole buffer at some contents. -/
theorem held_whole (b : Ref sig .scVector) :
    (iprop(∃ f : Buf (Elt F) ((thr d i).loc b), (thr d i).loc b ↦{fullShare} f) : sProp 𝕄) = Held (F := F) d i (Memref.whole b) := by
  unfold Held
  exact congrArg BIBase.exists (funext fun f => (owns_whole (thr d i) b fullShare f).symm)

theorem buffers_sep (Φ : Ref sig .scVector → sProp (MT nD τ sig (HIx 1) (Elt F) ℕ UU ℕ)) :
    bigSep buffers Φ = iprop(Φ cc0_scratch0 ∗ Φ cc0_scratch1 ∗ Φ cc0_scratch2 ∗ Φ cc0_scratch3 ∗ Φ cc0_scratch4 ∗ Φ cc0_scratch5 ∗ Φ cc0_scratch6
      ∗ Φ cc0_scratch7 ∗ Φ cc0_scratch8 ∗ Φ cc0_scratch9 ∗ Φ cc0_scratch10) := by
  unfold buffers
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The tile's own buffers are the body's, and the others. -/
theorem own_buffers :
    (ownBufs (thr d i) : sProp 𝕄)
      = iprop(Scratch (F := F) d i (Memref.whole cc0_scratch0) (Memref.whole cc0_scratch1) (Memref.whole cc0_scratch2) (Memref.whole cc0_scratch3)
          (Memref.whole cc0_scratch4) (Memref.whole cc0_scratch5) (Memref.whole cc0_scratch6) (Memref.whole cc0_scratch7) (Memref.whole cc0_scratch8)
          (Memref.whole cc0_scratch9) (Memref.whole cc0_scratch10)
        ∗ bigSep (ownRefs (tileAt i) \ buffers.image (tileAt i).devRef) fun b => iprop(∃ f, ((d, b) : Loc nD τ sig) ↦{fullShare} f)) := by
  unfold ownBufs
  have hs : buffers.image (tileAt i).devRef ⊆ ownRefs (tileAt i) := by
    intro b hb
    obtain ⟨r, hr, rfl⟩ := Finset.mem_image.mp hb
    exact SparseCore.Cfg.mem_ownRefs_of_owner ((show ∀ r ∈ buffers, ∀ (c : Fin τ.nSC) (s : Fin τ.nSub), ((Proc.scVector c s).devRef r).owner = .proc (.scVector c s) by
      decide) r hr _ _)
  have hi : Set.InjOn (tileAt i).devRef (buffers : Set (Ref sig .scVector)) := fun a _ b _ e => Proc.devRef_injective _ e
  refine (SparseCore.bigSep_sdiff_split' hs).trans ?_
  rw [SparseCore.bigSep_image_of_injOn hi]
  rw [buffers_sep]
  unfold Scratch
  simp only [← held_whole]

/-! ## The tile's task -/

theorem tile_task (hF : (K (F := F)).Facts) (hr : InRange m) (O : CellTallies nD τ sig (HIx 1)) (W : Waits sig (HIx 1)) (hO : ∀ g, O g none = 0) :
    (iprop(levAts (K (F := F)).L (K (F := F)).lev ∗ emp ∗ TileIn m d i ∗ scopedBufs (thr d i) ∗ scopedSems0 (thr d i) ∗ owes (thr d i) O W) : sProp 𝕄)
      ⊢ wp frame (wpE (defs₀ (F := F)) 𝒱₀ (thr d i) none) Set.univ
          (cc0__body i idsV (Memref.isWhole_whole _) scoresV (Memref.isWhole_whole _) outV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _)
            cc0_scratch11 cc0_scratch12 cc0_scratch13 cc0_scratch14 cc0_scratch15 cc0_scratch16 cc0_scratch17 cc0_scratch18
            cc0_scratch19 cc0_scratch20 cc0_scratch21 cc0_scratch22 cc0_scoped0 cc0_scoped1)
          fun _ => iprop(TileOut m d i ∗ scopedBufs (thr d i) ∗ scopedSems0 (thr d i) ∗ Due (thr d i) O W) := by
  rw [show (scopedBufs (thr d i) : sProp 𝕄) = ownBufs (thr d i) from (K (F := F)).scopedBufs_V hF d _ _,
    show (scopedSems0 (thr d i) : sProp 𝕄) = ownSems0 (thr d i) from SparseCore.Cfg.scopedSems0_V (Val := Elt F) d _ _, own_counters, own_buffers]
  unfold TileIn TileOut Given
  iintro ⟨#Hl, -, ⟨⟨HI, HI', HS, HS'⟩, HD, HD'⟩, ⟨HB, HBs⟩, ⟨HQ, HQs⟩, HO⟩
  ihave HM := ((K (F := F)).mayWaits_none (thr := thr d i) hO) $$ Hl
  iapply ((tile_body (O := O) (W := W) d i idsV (Memref.isWhole_whole _) scoresV (Memref.isWhole_whole _) outV (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _)
    cc0_scratch11 cc0_scratch12 cc0_scratch13 cc0_scratch14 cc0_scratch15 cc0_scratch16 cc0_scratch17 cc0_scratch18
    cc0_scratch19 cc0_scratch20 cc0_scratch21 cc0_scratch22 cc0_scoped0 cc0_scoped1 (hr d (rowNo i 0)) (hr d (rowNo i 1))).trans (wp_wand frame _ _)) $$ [HI HI' HS HS' HD HD' HB HQ HO HM]
  · unfold Going Due
    iframe
    isplitl [HO]
    · iexists W
      isplitr
      · ipureintro; exact fun _ h => .inl h
      iexact HO
    iexact HM
  unfold Going
  iintro %_ ⟨HI, HI', HS, HS', HD, HD', HB, HQ, HO, -⟩
  iframe

end Own

/-! ## The launch theorem's obligations -/

theorem defs₀_vector (c : Fin τ.nSC) (s : Fin τ.nSub) :
    defs₀ (F := F) (.scVector c s) 0 ()
      = SparseCore.onTile hcore0 hsub0 (fun c s => cc0__body (tileCoords c s) idsV (Memref.isWhole_whole _) scoresV (Memref.isWhole_whole _) outV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _)
            cc0_scratch11 cc0_scratch12 cc0_scratch13 cc0_scratch14 cc0_scratch15 cc0_scratch16 cc0_scratch17 cc0_scratch18
            cc0_scratch19 cc0_scratch20 cc0_scratch21 cc0_scratch22 cc0_scoped0 cc0_scoped1) ⟨⟩ c s := rfl

/-- What a task leaves owed, as the launch theorem words it. -/
theorem due_task {c : Thread nD τ} {O : CellTallies nD τ sig (HIx 1)} {W : Waits sig (HIx 1)} {q : Fin 1} {A B C : sProp (MT nD τ sig (HIx 1) (Elt F) ℕ UU ℕ)} :
    iprop(A ∗ B ∗ C ∗ Due (F := F) c O W) ⊢ iprop(A ∗ B ∗ C ∗ ∃ W', ⌜∀ p ∈ W', p ∈ W ∨ p.2 = none ∨ p.2 = some q⌝ ∗ owes c O W') := by
  unfold Due
  iintro ⟨HA, HB, HC, %W', %h, HO⟩
  iframe
  iexists W'
  isplitr
  · ipureintro; exact fun p hp => (h p hp).imp_right Or.inl
  iexact HO

theorem tileObl (hF : (K (F := F)).Facts) (hr : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m d (tileCoords ⟨_, hc.1⟩ ⟨_, hc.2⟩) hF hr O W hO).trans (wp_mono frame _ _ fun _ => due_task)

/-- A SparseCore's share is its tiles', by definition. -/
theorem vecSplit : (K (F := F)).VecSplit' (P m) 0 := by
  intro d c
  show CoreIn m d c ⊢ |={Set.univ}=> iprop((bigSep Finset.univ fun s : Fin 16 => TileIn m d (tileCoords c s))
      ∗ ((bigSep Finset.univ fun s : Fin 16 => TileOut m d (tileCoords c s)) -∗ CoreOut m d c))
  unfold CoreIn CoreOut
  iintro H; imodintro
  isplitl [H]; · iexact H
  iintro H; iexact H

/-! ## The arrays, dealt to the tiles and gathered back -/

/-- The three arrays' parts that are a tile's, the output at `g`. -/
def TileParts (d : Dev nD) (g : Buf (Elt F) (outAt d)) (i : grid0.Coords) : sProp 𝕄 :=
  iprop(((idsAt d ↦[(span 2048 (rowNo i 0).val 0 2048).map idsV.view.emb]{fullShare} m (idsAt d))
      ∗ idsAt d ↦[(span 2048 (rowNo i 1).val 0 2048).map idsV.view.emb]{fullShare} m (idsAt d))
    ∗ ((scoresAt d ↦[(span 100000 (rowNo i 0).val 0 100000).map scoresV.view.emb]{fullShare} m (scoresAt d))
      ∗ scoresAt d ↦[(span 100000 (rowNo i 1).val 0 100000).map scoresV.view.emb]{fullShare} m (scoresAt d))
    ∗ ((outAt d ↦[(span 100000 (rowNo i 0).val 0 100000).map outV.view.emb]{fullShare} g)
      ∗ outAt d ↦[(span 100000 (rowNo i 1).val 0 100000).map outV.view.emb]{fullShare} g))

theorem three_sep (A B C : Fin 2 → Fin 16 → sProp (MT nD τ sig (HIx 1) (Elt F) ℕ UU ℕ)) :
    (bigSep Finset.univ fun c => bigSep Finset.univ fun s => iprop(A c s ∗ B c s ∗ C c s))
      = iprop((bigSep Finset.univ fun c => bigSep Finset.univ (A c)) ∗ (bigSep Finset.univ fun c => bigSep Finset.univ (B c))
        ∗ bigSep Finset.univ fun c => bigSep Finset.univ (C c)) := by
  simp only [bigSep_sep']

/-- An array whole is the places its whole memref places. -/
theorem whole_places {ℓ : Loc nD τ sig} {f : Buf (Elt F) ℓ} {S : Finset (Idx ℓ)} (h : S = Finset.univ) : (ℓ ↦{fullShare} f : sProp 𝕄) = (ℓ ↦[S]{fullShare} f) := by
  rw [h]

theorem arrays_eq (d : Dev nD) (g : Buf (Elt F) (outAt d)) :
    (iprop((idsAt d ↦{fullShare} m (idsAt d)) ∗ (scoresAt d ↦{fullShare} m (scoresAt d)) ∗ outAt d ↦{fullShare} g) : sProp 𝕄)
      = bigSep Finset.univ fun c : Fin 2 => bigSep Finset.univ fun s : Fin 16 => TileParts m d g (tileCoords c s) := by
  unfold TileParts
  refine Eq.trans ?_ (three_sep _ _ _).symm
  exact both ((whole_places (View.set_whole _)).trans (whole_tiles (n := 2048) (ℓ := idsAt d) idsV.view.emb (m (idsAt d))))
    (both ((whole_places (View.set_whole _)).trans (whole_tiles (n := 100000) (ℓ := scoresAt d) scoresV.view.emb (m (scoresAt d))))
      ((whole_places (View.set_whole _)).trans (whole_tiles (n := 100000) (ℓ := outAt d) outV.view.emb g)))

theorem idRow_read (d : Dev nD) (r : Fin 64) (t : S2048.Idx) : idsV.view.read (Elt F) (m (idsAt d)) (at2 (n := 2048) r (t 0)) = idRow m d r t := rfl
theorem rowOf_self (f : S64x100000.Idx → F .f32) (r : Fin 64) (j : Fin 100000) : f (at2 (n := 100000) r j) = rowOf f r j := by
  unfold rowOf
  rw [show (⟨j.val % 100000, Nat.mod_lt _ (by decide)⟩ : Fin 100000) = j from Fin.ext (Nat.mod_eq_of_lt j.isLt)]
theorem outFinal_read (d : Dev nD) (r : Fin 64) (j : Fin 100000) :
    outV.view.read (Elt F) (outFinal m d) (at2 (n := 100000) r j) = outRow (idRow m d r) (scoreRow m d r) j := rfl

theorem regroup {A B C D E G : sProp (MT nD τ sig (HIx 1) (Elt F) ℕ UU ℕ)} : iprop((A ∗ B) ∗ (C ∗ D) ∗ E ∗ G) ⊢ iprop((A ∗ B ∗ C ∗ D) ∗ E ∗ G) := by
  iintro ⟨⟨HA, HB⟩, ⟨HC, HD⟩, HE, HG⟩
  iframe

/-- A tile's parts as handed out, -/
theorem parts_in (d : Dev nD) (i : grid0.Coords) : TileParts m d (m (outAt d)) i ⊢ TileIn m d i := by
  have h0 := row0_part d i (A := outV) (f := m (outAt d)) (R := rowOf (m (outAt d)) (rowNo i 0)) (fun j => rowOf_self _ _ j)
  have h1 := row1_part d i (A := outV) (f := m (outAt d)) (R := rowOf (m (outAt d)) (rowNo i 1)) (fun j => rowOf_self _ _ j)
  unfold TileIn Given
  rw [ids0_part d i (f := m (idsAt d)) (fun t => idRow_read m d _ t), ids1_part d i (f := m (idsAt d)) (fun t => idRow_read m d _ t),
    row0_part d i (A := scoresV) (f := m (scoresAt d)) (R := scoreRow m d (rowNo i 0)) (fun j => rowOf_self _ _ j), row1_part d i (A := scoresV) (f := m (scoresAt d)) (R := scoreRow m d (rowNo i 1)) (fun j => rowOf_self _ _ j)]
  refine BI.Entails.trans ?_ (sep_mono_right (sep_mono ((Entails.of_eq h0.symm).trans (held_of_has d _)) ((Entails.of_eq h1.symm).trans (held_of_has d _))))
  unfold TileParts
  exact regroup

/-- and as brought back. -/
theorem parts_out (d : Dev nD) (i : grid0.Coords) : TileOut m d i ⊢ TileParts m d (outFinal m d) i := by
  unfold TileOut Given
  rw [ids0_part d i (f := m (idsAt d)) (fun t => idRow_read m d _ t), ids1_part d i (f := m (idsAt d)) (fun t => idRow_read m d _ t),
    row0_part d i (A := scoresV) (f := m (scoresAt d)) (R := scoreRow m d (rowNo i 0)) (fun j => rowOf_self _ _ j), row1_part d i (A := scoresV) (f := m (scoresAt d)) (R := scoreRow m d (rowNo i 1)) (fun j => rowOf_self _ _ j),
    row0_part d i (A := outV) (f := outFinal m d) (fun j => outFinal_read m d _ j), row1_part d i (A := outV) (f := outFinal m d) (fun j => outFinal_read m d _ j)]
  unfold TileParts
  iintro ⟨⟨HI, HI', HS, HS'⟩, HO, HO'⟩
  isplitl [HI HI']
  · isplitl [HI]; · iexact HI
    iexact HI'
  isplitl [HS HS']
  · isplitl [HS]; · iexact HS
    iexact HS'
  isplitl [HO]; · iexact HO
  iexact HO'

theorem deal (d : Dev nD) :
    (iprop((idsAt d ↦{fullShare} m (idsAt d)) ∗ (scoresAt d ↦{fullShare} m (scoresAt d)) ∗ outAt d ↦{fullShare} m (outAt d)) : sProp 𝕄)
      ⊢ bigSep Finset.univ fun c : Fin ((K (F := F)).nCore 0) => (P m).st 0 d c := by
  rw [arrays_eq]
  show _ ⊢ bigSep Finset.univ fun c : Fin 2 => CoreIn m d c
  unfold CoreIn
  exact bigSep_mono fun c _ => bigSep_mono fun s _ => parts_in m d (tileCoords c s)

theorem gather_back (d : Dev nD) :
    (bigSep Finset.univ fun c : Fin ((K (F := F)).nCore 0) => (P m).dn 0 d c)
      ⊢ (iprop((idsAt d ↦{fullShare} m (idsAt d)) ∗ (scoresAt d ↦{fullShare} m (scoresAt d)) ∗ outAt d ↦{fullShare} outFinal m d) : sProp 𝕄) := by
  rw [arrays_eq]
  show (bigSep Finset.univ fun c : Fin 2 => CoreOut m d c) ⊢ _
  unfold CoreOut
  exact bigSep_mono fun c _ => bigSep_mono fun s _ => parts_out m d (tileCoords c s)

/-! ## The launch element of the kernel's ghost state -/

def u₀ : UU := (initOf (K (F := F)).hsCells (K (F := F)).hsToks, 1)

theorem ownU_rounds (a : UH) (b : Counters) : (ownU (a, b) : sProp 𝕄) ⊢ BI.own (EH a) := by
  have h : (ownU (a, b) : sProp 𝕄) ⊢ iprop(BI.own (EH a) ∗ BI.own (EC.toEmb b)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op b)))
  exact h.trans sep_elim_left

theorem bigSep_nothing {I : Type} (s : Finset I) : (bigSep s fun _ => iprop(emp)) = (iprop(emp) : sProp (MT nD τ sig (HIx 1) (Elt F) ℕ UU ℕ)) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) := by
    simp only [show (P m).x = fun _ _ => iprop(emp) from rfl, bigSep_nothing]
  rw [hx, bigSep_nothing]
  unfold u₀
  iintro Hu
  ihave HH := (ownU_rounds _ _) $$ Hu
  imodintro
  isplitl [HH]; · iexact HH
  isplitr <;> iempintro

/-! ## The program on the TensorCore -/

theorem unscoped_arrays (d : Dev nD) (W : (b : Ref sig .tc) → Buf (Elt F) ((d.tc : Thread nD τ).loc b)) :
    (unscopedBufs d W : sProp 𝕄) = iprop((idsAt d ↦{fullShare} W main_arg0) ∗ (scoresAt d ↦{fullShare} W main_arg1) ∗ outAt d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the program ends with: the arguments as launched, the output penalised. -/
abbrev Ended (d : Dev nD) : sProp 𝕄 :=
  iprop((idsAt d ↦{fullShare} m (idsAt d)) ∗ (scoresAt d ↦{fullShare} m (scoresAt d)) ∗ outAt d ↦{fullShare} outFinal m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Ended m d ∗ (K (F := F)).tcEnd d) := by
  unfold SparseCore.Cfg.tcRes SparseCore.Cfg.tcEnd
  rw [unscoped_arrays]
  simp only [main, wp_bind, wp_pure]
  iintro ⟨#Hctx, Hst, ⟨Hb, Ha, Hts, -⟩, -⟩
  ihave Hd := (deal m d) $$ Ha
  iapply ((K (F := F)).wp_run (D (F := F)) 𝒱 (EH := EH) (P := P m) κ d 0) $$ [Hst Hd Hb Hts]
  isplitr; · iexact Hctx
  isplitl [Hst]; · iexact Hst
  isplitl [Hd]; · iexact Hd
  iintro ⟨Hst, Hdn⟩
  ihave Hf := (gather_back m d) $$ Hdn
  imodintro
  isplitl [Hst]; · iexact Hst
  isplitl [Hf]; · iexact Hf
  isplitl [Hb] <;> iassumption

/-- The final memory at device `d`. -/
def EndsAt (d : Dev nD) (s' : Phys nD τ sig (Elt F)) : Prop :=
  s'.mem.mem (idsAt d) = m (idsAt d) ∧ s'.mem.mem (scoresAt d) = m (scoresAt d) ∧ s'.mem.mem (outAt d) = outFinal m d

/-- Memory agrees with an array owned whole. -/
theorem agrees {ℓ : Loc nD τ sig} {f : Buf (Elt F) ℓ} {s' : Phys nD τ sig (Elt F)} :
    (iprop((ℓ ↦{fullShare} f) ∗ SI s') : sProp 𝕄) ⊢ iprop(⌜s'.mem.mem ℓ = f⌝ ∗ SI s') := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(Ended m d ∗ SI s') ⊢ (⌜EndsAt m d s'⌝ : sProp 𝕄) := by
  iintro ⟨⟨Hi, Hx, Ho⟩, HSI⟩
  ihave H := agrees $$ [HSI Hi]; · isplitl [Hi] <;> iassumption
  icases H with ⟨%h1, HSI⟩
  ihave H := agrees $$ [HSI Hx]; · isplitl [Hx] <;> iassumption
  icases H with ⟨%h2, HSI⟩
  ihave H := agrees $$ [HSI Ho]; · isplitl [Ho] <;> iassumption
  icases H with ⟨%h3, -⟩
  ipureintro; exact ⟨h1, h2, h3⟩

/-! ## The program's run -/

/-- The arguments unchanged, the output penalised, every counter at rest. -/
def Ends : PUnit × MemSt nD τ sig (Elt F) → Prop := fun r =>
  (∀ d : Dev nD, r.2.mem (idsAt d) = m (idsAt d) ∧ r.2.mem (scoresAt d) = m (scoresAt d) ∧ r.2.mem (outAt d) = outFinal m d) ∧ r.2.sem = fun _ => 0

theorem run_main [∀ e, Nonempty (Elt F e)] (hr : InRange m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hr)
    (fun q _ => match q with | 0 => SparseCore.Cfg.VecSplit.of_plain (vecSplit m))
    m ρ main (fun _ => iprop(emp)) (Ended m) (u₀ (F := F)) (sep_elim_left.trans (hu₀ m)) (hmain m ρ) (EndsAt m) (hfin m) (Ends m) (fun _ h hz => ⟨h, hz⟩)

end Cert.Proof.Penalty
-- ==== Proof.Range.lean ====
/-
  The precondition read back: every id, as launched, is inside a row.
-/
module

public import proofs.«01_k».proof.Proof.Launch
public import proofs.«01_k».proof.Proof.Gen.Pre_ids_in_range
public import Idealize.ShloMosaic.Lib.ReduceAll

@[expose] public section

noncomputable section

namespace Cert.Proof.Penalty

open Idealize.ShloMosaic

/-- A word between 0 and 100000 as a signed word is below 100000. -/
theorem below_of_cmp {v : BitVec 32} (e : IntOp.andi (IntOp.cmpi .sge v 0#32) (IntOp.cmpi .slt v 100000#32) = 1#1) : v.toNat < 100000 := by
  obtain ⟨h0, h1⟩ := IntOp.andi_eq_one.1 e
  have h0 : (0#32).sle v = true := by
    change BitVec.ofBool ((0#32).sle v) = 1#1 at h0
    cases h : (0#32).sle v with
    | true => rfl
    | false => rw [h] at h0; exact absurd h0 (by decide)
  have h1 : v.slt 100000#32 = true := by
    change BitVec.ofBool (v.slt 100000#32) = 1#1 at h1
    cases h : v.slt 100000#32 with
    | true => rfl
    | false => rw [h] at h1; exact absurd h1 (by decide)
  simp only [BitVec.sle_eq_decide, BitVec.slt_eq_decide, decide_eq_true_eq, BitVec.toInt_eq_toNat_cond, BitVec.toNat_ofNat, Nat.reducePow, Nat.reduceMod] at h0 h1
  omega

/-- Where the precondition holds of two arrays, every id is below 100000. -/
theorem ids_below {F : FTy → Type} [FloatOps F] {ids : IVec Cert.Pre_ids_in_range.S64x2048 32} {x : FVec F Cert.Pre_ids_in_range.S64x100000 .f32}
    (h : Cert.Pre_ids_in_range.fn (F := F) ids x = fun _ => 1#1) (i : Cert.Pre_ids_in_range.S64x2048.Idx) : (ids i).toNat < 100000 := by
  haveI : Subsingleton Cert.Pre_ids_in_range.S_.Idx := ⟨fun a b => funext fun k => k.elim0⟩
  have e := congrFun h (fun k => k.elim0)
  simp only [Cert.Pre_ids_in_range.fn] at e
  exact below_of_cmp (Host.reduce_andi_all _ _ _ _ _ e i)

end Cert.Proof.Penalty
-- ==== Proof.Frames.lean ====
/-
  The three frames: the kernel's at both kinds of value, from the one run, and the reference's.
-/
module

public import proofs.«01_k».proof.Defs
public import proofs.«01_k».proof.Proof.Range
public import proofs.«01_k».proof.Proof.Gen.Kernel
public import proofs.«01_k».proof.Proof.Gen.ReferenceIdeal.Run
public import Idealize.ShloMosaic.Lib.Claim

@[expose] public section

noncomputable section

namespace Cert.Proof.Penalty

open Idealize.ShloMosaic Idealize.SL.Sem

theorem in_range_kernel (m : (ℓ : Loc Cert.Kernel.nD Cert.Kernel.τ Cert.Kernel.sig) → Buf (Elt Bits) ℓ) (h : Cert.Pre_Kernel m) :
    InRange (F := Bits) m := fun d _ _ => ids_below (h d) _

theorem in_range_ideal (m : (ℓ : Loc Cert.KernelIdeal.nD Cert.KernelIdeal.τ Cert.KernelIdeal.sig) → Buf (Elt Ideal) ℓ) (h : Cert.Pre_KernelIdeal m) :
    InRange (F := Ideal) m := fun d _ _ => ids_below (h d) _

theorem frame_kernel : Cert.quiescent_Kernel := fun m ρ h =>
  (θ_run Cert.KernelIdeal.defs _ _).mono (fun _ e => ⟨fun d => ⟨(e.1 d).1, (e.1 d).2.1⟩, e.2⟩)
    (run_main (F := Bits) m ρ (in_range_kernel m h))

theorem frame_ideal : Cert.quiescent_KernelIdeal := fun m ρ h =>
  (θ_run Cert.KernelIdeal.defs _ _).mono (fun _ e => ⟨fun d => ⟨(e.1 d).1, (e.1 d).2.1⟩, e.2⟩)
    (run_main (F := Ideal) m ρ (in_range_ideal m h))

theorem frame_reference : Cert.quiescent_ReferenceIdeal := fun m ρ _ =>
  (θ_run Cert.ReferenceIdeal.defs _ _).mono (fun r e => ⟨fun d => (e d).2, sem_eq_zero_of_no_sems (by decide) r.2⟩)
    (Cert.ReferenceIdeal.Value.run (F := Ideal) m ρ)

end Cert.Proof.Penalty
-- ==== Proof.Scatter.lean ====
/-
  The reference's gather and scatter, each read at one element.
-/
module

public import proofs.«01_k».proof.Proof.Lanes
public import proofs.«01_k».proof.Proof.Gen.ReferenceIdeal
public import Idealize.ShloMosaic.Lib.Routing.OpsPair

@[expose] public section

noncomputable section

namespace Cert.Proof.Penalty

open Idealize.ShloMosaic Idealize.ShloMosaic.ValueIdx Idealize.ShloMosaic.Routing

/-- A pass over a list that replaces the value by `p` at some of its members ends at `p` exactly when there is such a member. -/
theorem replace_by {α ι : Type} (p a : α) (hit : ι → Prop) [DecidablePred hit] (f : ι → α) (hf : ∀ n, hit n → f n = p) (l : List ι) :
    l.foldl (fun b n => if hit n then f n else b) a = open Classical in if ∃ n ∈ l, hit n then p else a := by
  induction l generalizing a with
  | nil => simp
  | cons n l ih =>
    rw [List.foldl_cons, ih]
    by_cases h : hit n
    · rw [if_pos h, hf n h, if_pos (⟨n, List.mem_cons_self, h⟩ : ∃ k ∈ n :: l, hit k)]
      split <;> rfl
    · rw [if_neg h]
      refine if_congr ⟨fun ⟨k, hk, e⟩ => ⟨k, List.mem_cons_of_mem _ hk, e⟩, fun ⟨k, hk, e⟩ => ?_⟩ rfl rfl
      rcases List.mem_cons.1 hk with rfl | hk
      · exact absurd e h
      · exact ⟨k, hk, e⟩

/-- A scatter that sets, all of whose updates landing at one element are equal: that value where one lands, the old one elsewhere. -/
theorem scatter_equal {α : Type} {s si u : Shape} {w : ℕ} (d : ScatterDims s si u) (x : s.Idx → α) (idx : IVec si w) (upd : u.Idx → α) (ι : s.Idx) (p : α)
    (hp : ∀ k, d.resultIdx? k idx = some ι → upd k = p) :
    Host.scatter d (fun _ b => b) x idx upd ι = open Classical in if ∃ k, d.resultIdx? k idx = some ι then p else x ι := by
  rw [scatter_at]
  refine (replace_by p (x ι) (fun n => d.resultIdx? (u.rowMajor.symm n) idx = some ι) _ (fun n h => hp _ h) _).trans ?_
  by_cases h : ∃ k, d.resultIdx? k idx = some ι
  · obtain ⟨k, e⟩ := h
    rw [if_pos ⟨u.rowMajor k, List.mem_finRange _, by rw [Equiv.symm_apply_apply]; exact e⟩, if_pos ⟨k, e⟩]
  · rw [if_neg fun ⟨n, _, e⟩ => h ⟨_, e⟩, if_neg h]

/-- The dimension numbers of the reference's gather. -/
abbrev rowDims : GatherDims Cert.ReferenceIdeal.S64x100000 Cert.ReferenceIdeal.S64x2048x1 Cert.ReferenceIdeal.S64x2048 :=
  Cert.ReferenceIdeal.gather_S64x100000_S64x2048x1_S64x2048_n_1_0_0_1_2_11

/-- The reference's gather at row `r`, place `t`: the operand's element of row `r` that the index word names. -/
theorem gather_row {α : Type} (x : Cert.ReferenceIdeal.S64x100000.Idx → α) (idx : IVec Cert.ReferenceIdeal.S64x2048x1 32) (r : Fin 64) (t : Fin 2048)
    (h : (idx (ix3 r t 0)).toNat < 100000) :
    Host.gather rowDims x idx (ix2 r t) = x (ix2 r ⟨(idx (ix3 r t 0)).toNat, h⟩) := by
  unfold Host.gather
  refine congrArg x (funext fun a => Fin.ext ?_)
  show rowDims.start (ix2 r t) idx a + rowDims.batchCoord (ix2 r t) a + rowDims.offCoord (ix2 r t) a = _
  have ha : a = 0 ∨ a = 1 := by
    match a with
    | ⟨0, _⟩ => exact Or.inl rfl
    | ⟨1, _⟩ => exact Or.inr rfl
  rcases ha with rfl | rfl
  · have hb : (0 : Fin 2) ∈ rowDims.operandBatchingDims := List.mem_singleton.2 rfl
    rw [rowDims.start_batching _ _ _ hb, rowDims.offCoord_eq_zero _ _ fun h => ((rowDims.mem_sKept _).1 h).2 hb]
    simp only [Nat.zero_add, Nat.add_zero]
    unfold GatherDims.batchCoord
    rw [dif_pos hb]
    rfl
  · have hs : (1 : Fin 2) ∈ rowDims.startIndexMap := List.mem_singleton.2 rfl
    have he : rowDims.siIdx (ix2 r t) ⟨List.idxOf (1 : Fin 2) rowDims.startIndexMap, List.idxOf_lt_length_iff.2 hs⟩ = ix3 r t 0 := by
      funext b
      refine Fin.ext ?_
      match b with
      | ⟨0, _⟩ => rfl
      | ⟨1, _⟩ => rfl
      | ⟨2, _⟩ => rfl
    rw [rowDims.batchCoord_eq_zero _ _ (fun h => absurd (List.mem_singleton.1 h) (by decide)),
      rowDims.offCoord_eq_zero _ _ fun h => ((rowDims.mem_sKept _).1 h).1 (List.mem_singleton.2 rfl)]
    simp only [Nat.add_zero]
    unfold GatherDims.start
    rw [dif_pos hs, he, WordCmp.toInt_eq_toNat_of_lt_half (by omega)]
    show min (idx (ix3 r t 0)).toNat 99999 = (idx (ix3 r t 0)).toNat
    omega

end Cert.Proof.Penalty
-- ==== Proof.Reference.lean ====
/-
  What the reference computes: the ids being in range, its result is the penalised scores, as the kernel's is.
-/
module

public import proofs.«01_k».proof.Proof.Launch
public import proofs.«01_k».proof.Proof.Scatter
public import proofs.«01_k».proof.Proof.Gen.ReferenceIdeal.Run
public import Idealize.ShloMosaic.Lib.ReduceAll
public import Idealize.ShloMosaic.Lib.Pipeline.Value

@[expose] public section

noncomputable section

namespace Cert.Proof.Penalty

open Cert.ReferenceIdeal Cert.ReferenceIdeal.Gen
open Idealize.ShloMosaic Idealize.ShloMosaic.ValueIdx Idealize.ShloMosaic.Routing

variable {F : FTy → Type} [FloatOps F]

/-- The ids as the reference indexes by them: a negative one counted from the row's end. -/
abbrev wrapped (ids : IVec S64x2048 32) : IVec S64x2048 32 :=
  select (cmpi .slt ids (broadcastInDim S64x2048 ![] bcast_S_S64x2048 (constantI S_ 32 0#32)))
    (addi ids (broadcastInDim S64x2048 ![] bcast_S_S64x2048 (constantI S_ 32 100000#32))) ids

/-- No id is negative, so none is moved. -/
theorem wrapped_self (ids : IVec S64x2048 32) (h : ∀ i, (ids i).toNat < 100000) : wrapped ids = ids :=
  funext fun i => wrap_of_lt (ids i) _ (by have := h i; omega)

/-- The ids as a column of start indices. -/
abbrev starts (ids : IVec S64x2048 32) : IVec S64x2048x1 32 := shapeCast S64x2048x1 ids shapeCasts_S64x2048_S64x2048x1

theorem starts_apply (ids : IVec S64x2048 32) (r : Fin 64) (t : Fin 2048) : starts ids (ix3 r t 0) = ids (ix2 r t) := by
  refine shapeCast_apply _ _ _ _ ?_
  rw [Shape.rowMajor_val_two, Shape.rowMajor_val_three]
  show r.val * 2048 + t.val = (r.val * 2048 + t.val) * 1 + 0
  omega

/-- Every start index is some id. -/
theorem starts_below (ids : IVec S64x2048 32) (h : ∀ i, (ids i).toNat < 100000) (i : S64x2048x1.Idx) : (starts ids i).toNat < 100000 := by
  unfold starts shapeCast
  exact h _

/-- The mask of the start indices inside a row. -/
abbrev inside (w : IVec S64x2048x1 32) : IVec S64x2048 1 :=
  Host.reduce IntOp.andi (andi (cmpi .sge w (broadcastInDim S64x2048x1 ![] bcast_S_S64x2048x1 (constantI S_ 32 0#32)))
      (cmpi .sle w (broadcastInDim S64x2048x1 ![0, 1, 2] bcast_S1x1x1_S64x2048x1_0_1_2 (broadcastInDim S1x1x1 ![2] bcast_S1_S1x1x1_2 (constantI S1 32 99999#32)))))
    (constantI S_ 1 1#1) reducesTo_S64x2048x1_S64x2048_d2 h_S_

/-- The scores read, as the reference reads them. -/
abbrev taken (x : FVec F S64x100000 .f32) (w : IVec S64x2048x1 32) : FVec F S64x2048 .f32 :=
  select (inside w) (Host.gather rowDims x w) (broadcastInDim S64x2048 ![] bcast_S_S64x2048 (constant S_ .f32 0x7FC00000#32))

/-- The values the reference writes. -/
abbrev written (g : FVec F S64x2048 .f32) : FVec F S64x2048 .f32 :=
  select (cmpf .olt g (broadcastInDim S64x2048 ![] bcast_S_S64x2048 (constant S_ .f32 0x00000000#32)))
    (mulf g (broadcastInDim S64x2048 ![] bcast_S_S64x2048 (constant S_ .f32 0x3F99999A#32)))
    (Host.divf g (broadcastInDim S64x2048 ![] bcast_S_S64x2048 (constant S_ .f32 0x3F99999A#32)))

/-- The row numbers, one to a row. -/
abbrev rowNos : IVec S64x1 32 := broadcastInDim S64x1 ![0] bcast_S64_S64x1_0 (iotaInDim S64 32 0)

/-- The row numbers as the reference indexes by them. -/
abbrev rowsWrapped : IVec S64x1 32 :=
  select (cmpi .slt rowNos (broadcastInDim S64x1 ![] bcast_S_S64x1 (constantI S_ 32 0#32)))
    (addi rowNos (broadcastInDim S64x1 ![] bcast_S_S64x1 (constantI S_ 32 64#32))) rowNos

/-- The pairs of index words: the row's number and the id. -/
abbrev pairs (ids : IVec S64x2048 32) : IVec S64x2048x2 32 :=
  concatenate S64x2048x2 2
    [⟨S64x2048x1, broadcastInDim S64x2048x1 ![0, 1] bcast_S64x2048_S64x2048x1_0_1 (broadcastInDim S64x2048 ![0, 1] bcast_S64x1_S64x2048_0_1 rowsWrapped)⟩,
      ⟨S64x2048x1, broadcastInDim S64x2048x1 ![0, 1] bcast_S64x2048_S64x2048x1_0_1 ids⟩] concatenates_S64x2048x1_S64x2048x1_S64x2048x2_d2

/-- The reference's result. -/
abbrev refOut (ids : IVec S64x2048 32) (x : FVec F S64x100000 .f32) : FVec F S64x100000 .f32 :=
  Host.scatter scatter_S64x100000_S64x2048x2_S64x2048_n_01_01_2 (fun _ b => b) x (pairs (wrapped ids)) (written (taken x (starts (wrapped ids))))

theorem res_eq (m : (ℓ : Loc nD τ sig) → Buf (Elt F) ℓ) (c : Dev nD) :
    Value.res_out0 m c = refOut (F := F) (m (c.tc.loc main_arg0)) (m (c.tc.loc main_arg1)) := by
  unfold Value.res_out0 Value.res_main_v24
  rfl

/-- A word below 100000 passes both of the mask's comparisons. -/
theorem cmp_of_below {v : BitVec 32} (h : v.toNat < 100000) : IntOp.andi (IntOp.cmpi .sge v 0#32) (IntOp.cmpi .sle v 99999#32) = 1#1 := by
  have h0 : (0#32).sle v = true := by
    simp only [BitVec.sle_eq_decide, decide_eq_true_eq, BitVec.toInt_eq_toNat_cond, BitVec.toNat_ofNat, Nat.reducePow, Nat.reduceMod]; omega
  have h1 : v.sle 99999#32 = true := by
    simp only [BitVec.sle_eq_decide, decide_eq_true_eq, BitVec.toInt_eq_toNat_cond, BitVec.toNat_ofNat, Nat.reducePow, Nat.reduceMod]; omega
  refine IntOp.andi_eq_one.2 ⟨?_, ?_⟩
  · show BitVec.ofBool ((0#32).sle v) = 1#1
    rw [h0]; rfl
  · show BitVec.ofBool (v.sle 99999#32) = 1#1
    rw [h1]; rfl

theorem inside_one (w : IVec S64x2048x1 32) (h : ∀ i, (w i).toNat < 100000) (j : S64x2048.Idx) : inside w j = 1#1 :=
  Host.reduce_andi_one _ _ _ _ _ rfl fun i => cmp_of_below (h i)

theorem pairs_row (ids : IVec S64x2048 32) (r : Fin 64) (t : Fin 2048) : pairs ids (ix3 r t 0) = BitVec.ofNat 32 r.val := by
  refine (concatenate_pair_apply_left (t := S64x2048x2) (s₁ := S64x2048x1) (s₂ := S64x2048x1) (2 : Fin 3) _ _ _ (ix3 r t (0 : Fin 2)) rfl
    (ix3 r t (0 : Fin 1)) fun b => ?_).trans ?_
  · match b with
    | ⟨0, _⟩ => rfl
    | ⟨1, _⟩ => rfl
    | ⟨2, _⟩ => rfl
  · exact wrap_of_lt (BitVec.ofNat 32 r.val) _ (by rw [BitVec.toNat_ofNat]; have := r.isLt; omega)

theorem pairs_id (ids : IVec S64x2048 32) (r : Fin 64) (t : Fin 2048) : pairs ids (ix3 r t 1) = ids (ix2 r t) := by
  refine (concatenate_pair_apply_right (t := S64x2048x2) (s₁ := S64x2048x1) (s₂ := S64x2048x1) (2 : Fin 3) _ _ _ (ix3 r t (1 : Fin 2)) rfl rfl
    (ix3 r t (0 : Fin 1)) (fun b hb => ?_) rfl).trans ?_
  · match b with
    | ⟨0, _⟩ => rfl
    | ⟨1, _⟩ => rfl
    | ⟨2, _⟩ => exact absurd rfl hb
  · refine broadcastInDim_apply _ _ _ _ _ fun a => ?_
    match a with
    | ⟨0, _⟩ => rfl
    | ⟨1, _⟩ => rfl

/-- What the reference writes for place `t` of row `r`: the penalised score that the id there names. -/
theorem written_apply (x : FVec Ideal S64x100000 .f32) (ids : IVec S64x2048 32) (h : ∀ i, (ids i).toNat < 100000) (r : Fin 64) (t : Fin 2048) :
    written (taken x (starts ids)) (ix2 r t) = pen (x (ix2 r ⟨(ids (ix2 r t)).toNat, h _⟩)) := by
  have e : taken x (starts ids) (ix2 r t) = x (ix2 r ⟨(ids (ix2 r t)).toNat, h _⟩) := by
    show Scalar.select (inside (starts ids) (ix2 r t)) (Host.gather rowDims x (starts ids) (ix2 r t)) _ = _
    rw [inside_one _ (starts_below ids h), WordCmp.select_of_eq_one rfl,
      gather_row x _ r t (by rw [starts_apply]; exact h _)]
    exact congrArg (fun q => x (ix2 r q)) (Fin.ext (congrArg BitVec.toNat (starts_apply ids r t)))
  exact congrArg (fun v : Ideal .f32 => pen v) e

/-- Where the update of row `a`, place `t` lands: at row `a`, at the place its id names. -/
theorem lands (ids : IVec S64x2048 32) (h : ∀ i, (ids i).toNat < 100000) (a : Fin 64) (t : Fin 2048) (r : Fin 64) (j : Fin 100000) :
    scatter_S64x100000_S64x2048x2_S64x2048_n_01_01_2.resultIdx? (ix2 a t) (pairs ids) = some (ix2 r j)
      ↔ a = r ∧ (ids (ix2 a t)).toNat = j.val := by
  have ha := a.isLt
  have hi := h (ix2 a t)
  refine (scatter_lands2 _ rfl rfl rfl (pairs ids) a t r j).trans ?_
  rw [pairs_row, pairs_id, WordCmp.toInt_ofNat_of_lt (by omega), WordCmp.toInt_eq_toNat_of_lt_half (by omega), Fin.ext_iff]
  omega

/-- The reference's result at row `r`, place `j`. -/
theorem refOut_apply (ids : IVec S64x2048 32) (x : FVec Ideal S64x100000 .f32) (h : ∀ i, (ids i).toNat < 100000) (r : Fin 64) (j : Fin 100000) :
    refOut ids x (ix2 r j) = open Classical in if ∃ t : Fin 2048, (ids (ix2 r t)).toNat = j.val then pen (x (ix2 r j)) else x (ix2 r j) := by
  unfold refOut
  rw [wrapped_self ids h]
  refine (scatter_equal _ x (pairs ids) _ (ix2 r j) (pen (x (ix2 r j))) fun k hk => ?_).trans ?_
  · obtain ⟨a, t, rfl⟩ : ∃ (a : Fin 64) (t : Fin 2048), k = ix2 a t := ⟨k 0, k 1, eq_ix2 k⟩
    obtain ⟨rfl, hj⟩ := (lands ids h a t r j).1 hk
    rw [written_apply x ids h]
    exact congrArg (fun q => pen (x (ix2 a q))) (Fin.ext hj)
  · refine if_congr ⟨fun ⟨k, hk⟩ => ?_, fun ⟨t, ht⟩ => ⟨ix2 r t, (lands ids h r t r j).2 ⟨rfl, ht⟩⟩⟩ rfl rfl
    obtain ⟨a, t, rfl⟩ : ∃ (a : Fin 64) (t : Fin 2048), k = ix2 a t := ⟨k 0, k 1, eq_ix2 k⟩
    obtain ⟨rfl, hj⟩ := (lands ids h a t r j).1 hk
    exact ⟨t, hj⟩

theorem at2_eq {n : ℕ} (r : Fin 64) (j : Fin n) : at2 r j = ix2 r j := by
  funext a
  match a with
  | ⟨0, _⟩ => rfl
  | ⟨1, _⟩ => rfl

/-- The reference's result is the kernel's. -/
theorem refOut_eq (m : (ℓ : Loc Cert.KernelIdeal.nD Cert.KernelIdeal.τ Cert.KernelIdeal.sig) → Buf (Elt Ideal) ℓ) (hr : InRange m)
    (d : Dev Cert.KernelIdeal.nD) : refOut (F := Ideal) (m (idsAt d)) (m (scoresAt d)) = outFinal m d := by
  have hrow (r : Fin 64) (t : Fin 2048) : idRow m d r (ix1 t) = (m (idsAt d) : IVec S64x2048 32) (ix2 r t) :=
    congrArg (m (idsAt d) : IVec S64x2048 32) (at2_eq r t)
  have h (i : S64x2048.Idx) : ((m (idsAt d) : IVec S64x2048 32) i).toNat < 100000 := by
    obtain ⟨r, t, rfl⟩ : ∃ (r : Fin 64) (t : Fin 2048), i = ix2 r t := ⟨i 0, i 1, eq_ix2 i⟩
    rw [← hrow]
    exact hr d r _
  funext i
  obtain ⟨r, j, rfl⟩ : ∃ (r : Fin 64) (j : Fin 100000), i = ix2 r j := ⟨i 0, i 1, eq_ix2 i⟩
  refine (refOut_apply _ _ h r j).trans ?_
  have hx : (m (scoresAt d) : FVec Ideal S64x100000 .f32) (ix2 r j) = scoreRow m d r j.val := by
    rw [← at2_eq]
    exact rowOf_self (F := Ideal) (m (scoresAt d)) r j
  rw [hx]
  show _ = outRow (idRow m d r) (scoreRow m d r) j.val
  unfold outRow
  refine if_congr ⟨fun ⟨t, ht⟩ => ⟨ix1 t, by rw [hrow]; exact ht⟩, fun ⟨t, ht⟩ => ⟨t 0, ?_⟩⟩ rfl rfl
  obtain ⟨q, rfl⟩ : ∃ q : Fin 2048, t = ix1 q := ⟨t 0, by funext a; match a with | ⟨0, _⟩ => rfl⟩
  rw [hrow] at ht
  exact ht

end Cert.Proof.Penalty
-- ==== Proof.Equal.lean ====
/-
  The kernel and the reference, from memories that agree on the arguments, end with equal results.
-/
module

public import proofs.«01_k».proof.Proof.Frames
public import proofs.«01_k».proof.Proof.Reference

@[expose] public section

noncomputable section

namespace Cert.Proof.Penalty

open Idealize.ShloMosaic Idealize.SL.Sem

/-- The reference's result read from a memory whose arguments are the kernel's. -/
theorem ref_out (m : (ℓ : Loc Cert.KernelIdeal.nD Cert.KernelIdeal.τ Cert.KernelIdeal.sig) → Buf (Elt Ideal) ℓ) (hr : InRange m)
    (m' : (ℓ : Loc Cert.ReferenceIdeal.nD Cert.ReferenceIdeal.τ Cert.ReferenceIdeal.sig) → Buf (Elt Ideal) ℓ) (d : Dev Cert.KernelIdeal.nD)
    (h0 : m' ((d.tc : Thread Cert.ReferenceIdeal.nD Cert.ReferenceIdeal.τ).loc Cert.ReferenceIdeal.main_arg0) = m (idsAt d))
    (h1 : m' ((d.tc : Thread Cert.ReferenceIdeal.nD Cert.ReferenceIdeal.τ).loc Cert.ReferenceIdeal.main_arg1) = m (scoresAt d)) :
    Cert.ReferenceIdeal.Value.res_out0 m' d = outFinal m d :=
  (res_eq m' d).trans ((congr (congrArg (refOut (F := Ideal)) h0) h1).trans (refOut_eq m hr d))

theorem equal_results : Cert.algebraic_KernelIdeal_ReferenceIdeal := fun m g m' g' hpre hagree =>
  ⟨fun d => outFinal m d,
    (θ_run Cert.KernelIdeal.defs _ _).mono (fun _ e d => ⟨(e.1 d).2.2, (e.1 d).1, (e.1 d).2.1⟩) (run_main (F := Ideal) m g (in_range_ideal m hpre)),
    (θ_run Cert.ReferenceIdeal.defs _ _).mono
      (fun _ e d => ⟨(e d).1.trans (ref_out m (in_range_ideal m hpre) m' d (hagree d).1 (hagree d).2), (e d).2⟩)
      (Cert.ReferenceIdeal.Value.run (F := Ideal) m' g')⟩

end Cert.Proof.Penalty
-- ==== Proof.lean ====
/-
  The proof of `Cert.Claim`: the three frames, the ideal program as the kernel's own text, and the equality of the kernel's
  result with the reference's. Each part is proved in the modules under Proof/; here they are put together.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_ids_in_range
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_ids_in_range.Gen.facts,
    Penalty.frame_kernel, Penalty.frame_ideal, Penalty.frame_reference, trivial, Penalty.equal_results⟩

end Cert.Proof

end
